-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v79) = v4 c
          ∧ r.2.mem ((c.tc : Thread Cert.Reference4Ideal.nD Cert.Reference4Ideal.τ).loc Cert.Reference4Ideal.main_v74) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x16x512x1024 : Shape := ⟨4, ![8, 16, 512, 1024]⟩
abbrev S16x1024x2048 : Shape := ⟨3, ![16, 1024, 2048]⟩
abbrev S16x2048x1024 : Shape := ⟨3, ![16, 2048, 1024]⟩
abbrev S1x1x512x1024 : Shape := ⟨4, ![1, 1, 512, 1024]⟩
abbrev S1x1024x1024 : Shape := ⟨3, ![1, 1024, 1024]⟩
abbrev S2x1024x1024 : Shape := ⟨3, ![2, 1024, 1024]⟩
abbrev S512x1024 : Shape := ⟨2, ![512, 1024]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8x16x512x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S8x16x512x1024, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x512x1024, .bf16⟩
  | .local _ .vmem, ⟨9, _⟩ => ⟨S1x1x512x1024, .bf16⟩
  | .local _ .vmem, ⟨10, _⟩ => ⟨S2x1024x1024, .bf16⟩
  | .local _ .vmem, ⟨11, _⟩ => ⟨S2x1024x1024, .bf16⟩
  | .local _ .vmem, ⟨12, _⟩ => ⟨S2x1024x1024, .bf16⟩
  | .local _ .vmem, ⟨13, _⟩ => ⟨S512x1024, .f32⟩
  | _, _ => ⟨S8x16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v35 : Index := Scalar.indexCast arg2
  let c0_21 : Index := 0#32
  let c0_22 : Index := 0#32
  ![v35.toNat, 0, 0]
def k0_off2 (i : grid0.Coords) : Fin 3 → Nat :=
  let arg2 : BitVec 32 := BitVec.ofNat 32 (i 2).val
  let v6 : Index := Scalar.indexCast arg2
  let c0_4 : Index := 0#32
  let c0_5 : Index := 0#32
  ![v6.toNat, 0, 0]
def k0_cond4 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_17 : BitVec 32 := 0#32
  let v31 : BitVec 1 := Scalar.cmpi .ne v30 c0_i32_17
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 32 := Scalar.select v0 arg2 c1_i32
  let c0_i32_0 : BitVec 32 := 0#32
  let c0_i32_1 : BitVec 32 := 0#32
  ![arg0.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 32 := Scalar.select v0 arg2 c1_i32
  let c0_i32_0 : BitVec 32 := 0#32
  let c0_i32_1 : BitVec 32 := 0#32
  ![arg0.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 32 := Scalar.select v0 arg2 c1_i32
  let c0_i32_0 : BitVec 32 := 0#32
  let c0_i32_1 : BitVec 32 := 0#32
  ![arg0.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S8x16x512x1024 : Shape := ⟨4, ![8, 16, 512, 1024]⟩
abbrev S16x1024x2048 : Shape := ⟨3, ![16, 1024, 2048]⟩
abbrev S16x2048x1024 : Shape := ⟨3, ![16, 2048, 1024]⟩
abbrev S16x2048x8x512 : Shape := ⟨4, ![16, 2048, 8, 512]⟩
abbrev S8x16x512x2048 : Shape := ⟨4, ![8, 16, 512, 2048]⟩
abbrev S_ : Shape := ⟨0, ![]⟩
abbrev S16x1024x8x512 : Shape := ⟨4, ![16, 1024, 8, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x16x512x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S8x16x512x1024, .f32⟩
  | .hbm, ⟨5, _⟩ => ⟨S16x2048x8x512, .f32⟩
  | .hbm, ⟨6, _⟩ => ⟨S8x16x512x2048, .f32⟩
  | .hbm, ⟨7, _⟩ => ⟨S8x16x512x1024, .f32⟩
  | .hbm, ⟨8, _⟩ => ⟨S16x2048x8x512, .f32⟩
  | .hbm, ⟨9, _⟩ => ⟨S8x16x512x2048, .f32⟩
  | .hbm, ⟨10, _⟩ => ⟨S8x16x512x2048, .f32⟩
  | .hbm, ⟨11, _⟩ => ⟨S8x16x512x2048, .f32⟩
  | .hbm, ⟨12, _⟩ => ⟨S_, .f32⟩
  | .hbm, ⟨13, _⟩ => ⟨S8x16x512x2048, .f32⟩
  | .hbm, ⟨14, _⟩ => ⟨S8x16x512x2048, .f32⟩
  | .hbm, ⟨15, _⟩ => ⟨S_, .f32⟩
  | .hbm, ⟨16, _⟩ => ⟨S8x16x512x2048, .f32⟩
  | .hbm, ⟨17, _⟩ => ⟨S8x16x512x2048, .f32⟩
  | .hbm, ⟨18, _⟩ => ⟨S8x16x512x2048, .f32⟩
  | .hbm, ⟨19, _⟩ => ⟨S8x16x512x2048, .f32⟩
  | .hbm, ⟨20, _⟩ => ⟨S16x1024x8x512, .f32⟩
  | .hbm, ⟨21, _⟩ => ⟨S8x16x512x1024, .f32⟩
  | .hbm, ⟨22, _⟩ => ⟨S8x16x512x1024, .bf16⟩
  | _, _ => ⟨S8x16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel2.lean ====
abbrev S8x4096x128 : Shape := ⟨3, ![8, 4096, 128]⟩
abbrev S8x16x512x1024 : Shape := ⟨4, ![8, 16, 512, 1024]⟩
abbrev S8x4096x1024 : Shape := ⟨3, ![8, 4096, 1024]⟩
abbrev S8x1x1024 : Shape := ⟨3, ![8, 1, 1024]⟩
abbrev S1x1024 : Shape := ⟨2, ![1, 1024]⟩
abbrev S8x4096x16 : Shape := ⟨3, ![8, 4096, 16]⟩
abbrev S8x16x4096 : Shape := ⟨3, ![8, 16, 4096]⟩
abbrev S8x16x512 : Shape := ⟨3, ![8, 16, 512]⟩
abbrev S8x16x1x512 : Shape := ⟨4, ![8, 16, 1, 512]⟩
abbrev S1x8x1x512 : Shape := ⟨4, ![1, 8, 1, 512]⟩
abbrev S1x8x512x1024 : Shape := ⟨4, ![1, 8, 512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x512 : Shape := ⟨2, ![1024, 512]⟩
abbrev S1x1x1x512 : Shape := ⟨4, ![1, 1, 1, 512]⟩
abbrev S1x512 : Shape := ⟨2, ![1, 512]⟩
abbrev S1024x4096 : Shape := ⟨2, ![1024, 4096]⟩
abbrev S8x512x1024 : Shape := ⟨3, ![8, 512, 1024]⟩
abbrev S4096x1024 : Shape := ⟨2, ![4096, 1024]⟩
abbrev S1024 : Shape := ⟨1, ![1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x4096x128, .f32⟩
  | .hbm, ⟨1, _⟩ => ⟨S8x16x512x1024, .bf16⟩
  | .hbm, ⟨2, _⟩ => ⟨S8x4096x1024, .f32⟩
  | .hbm, ⟨3, _⟩ => ⟨S8x1x1024, .f32⟩
  | .hbm, ⟨4, _⟩ => ⟨S1x1024, .f32⟩
  | .hbm, ⟨5, _⟩ => ⟨S8x4096x16, .f32⟩
  | .hbm, ⟨6, _⟩ => ⟨S8x16x4096, .f32⟩
  | .hbm, ⟨7, _⟩ => ⟨S8x16x512, .f32⟩
  | .hbm, ⟨8, _⟩ => ⟨S8x16x512, .i32⟩
  | .hbm, ⟨9, _⟩ => ⟨S8x16x1x512, .i32⟩
  | .hbm, ⟨10, _⟩ => ⟨S8x16x1x512, .f32⟩
  | .hbm, ⟨11, _⟩ => ⟨S8x4096x1024, .f32⟩
  | .local _ .vmem, ⟨0, _⟩ => ⟨S1x8x1x512, .i32⟩
  | .local _ .vmem, ⟨1, _⟩ => ⟨S1x8x1x512, .i32⟩
  | .local _ .vmem, ⟨2, _⟩ => ⟨S1x8x1x512, .f32⟩
  | .local _ .vmem, ⟨3, _⟩ => ⟨S1x8x1x512, .f32⟩
  | .local _ .vmem, ⟨4, _⟩ => ⟨S1x8x512x1024, .bf16⟩
  | .local _ .vmem, ⟨5, _⟩ => ⟨S1x8x512x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1024x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v105 : BitVec 1 := Scalar.cmpi .eq arg2 c1_i32
  let v106 : BitVec 32 := Scalar.extui v105
  let c0_i32_73 : BitVec 32 := 0#32
  let v107 : BitVec 1 := Scalar.cmpi .ne v106 c0_i32_73
  v107

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x8x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S8x4096x128 : Shape := ⟨3, ![8, 4096, 128]⟩
abbrev S8x16x512x1024 : Shape := ⟨4, ![8, 16, 512, 1024]⟩
abbrev S8x4096x1024 : Shape := ⟨3, ![8, 4096, 1024]⟩
abbrev S8x1x1024 : Shape := ⟨3, ![8, 1, 1024]⟩
abbrev S1x1024 : Shape := ⟨2, ![1, 1024]⟩
abbrev S8x4096x16 : Shape := ⟨3, ![8, 4096, 16]⟩
abbrev S8x16x4096 : Shape := ⟨3, ![8, 16, 4096]⟩
abbrev S8x16x512 : Shape := ⟨3, ![8, 16, 512]⟩
abbrev S8 : Shape := ⟨1, ![8]⟩
abbrev S8x1x1 : Shape := ⟨3, ![8, 1, 1]⟩
abbrev S8x16x512x1 : Shape := ⟨4, ![8, 16, 512, 1]⟩
abbrev S_ : Shape := ⟨0, ![]⟩
abbrev S8x16x512x2 : Shape := ⟨4, ![8, 16, 512, 2]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x16x512x1024, .bf16⟩
  | .hbm, ⟨2, _⟩ => ⟨S8x4096x1024, .f32⟩
  | .hbm, ⟨3, _⟩ => ⟨S8x1x1024, .f32⟩
  | .hbm, ⟨4, _⟩ => ⟨S1x1024, .f32⟩
  | .hbm, ⟨5, _⟩ => ⟨S8x4096x16, .f32⟩
  | .hbm, ⟨6, _⟩ => ⟨S8x16x4096, .f32⟩
  | .hbm, ⟨7, _⟩ => ⟨S8x16x512, .f32⟩
  | .hbm, ⟨8, _⟩ => ⟨S8x16x512, .i32⟩
  | .hbm, ⟨9, _⟩ => ⟨S8, .i32⟩
  | .hbm, ⟨10, _⟩ => ⟨S8x1x1, .i32⟩
  | .hbm, ⟨11, _⟩ => ⟨S8x16x512x1024, .f32⟩
  | .hbm, ⟨12, _⟩ => ⟨S8x16x512x1, .f32⟩
  | .hbm, ⟨13, _⟩ => ⟨S8x16x512x1024, .f32⟩
  | .hbm, ⟨14, _⟩ => ⟨S8x16x512x1024, .f32⟩
  | .hbm, ⟨15, _⟩ => ⟨S_, .f32⟩
  | .hbm, ⟨16, _⟩ => ⟨S8x4096x1024, .f32⟩
  | .hbm, ⟨17, _⟩ => ⟨S_, .i32⟩
  | .hbm, ⟨18, _⟩ => ⟨S8x1x1, .i32⟩
  | .hbm, ⟨19, _⟩ => ⟨S8x1x1, .i1⟩
  | .hbm, ⟨20, _⟩ => ⟨S_, .i32⟩
  | .hbm, ⟨21, _⟩ => ⟨S8x1x1, .i32⟩
  | .hbm, ⟨22, _⟩ => ⟨S8x1x1, .i32⟩
  | .hbm, ⟨23, _⟩ => ⟨S8x1x1, .i32⟩
  | .hbm, ⟨24, _⟩ => ⟨S_, .i32⟩
  | .hbm, ⟨25, _⟩ => ⟨S8x16x512, .i32⟩
  | .hbm, ⟨26, _⟩ => ⟨S8x16x512, .i1⟩
  | .hbm, ⟨27, _⟩ => ⟨S_, .i32⟩
  | .hbm, ⟨28, _⟩ => ⟨S8x16x512, .i32⟩
  | .hbm, ⟨29, _⟩ => ⟨S8x16x512, .i32⟩
  | .hbm, ⟨30, _⟩ => ⟨S8x16x512, .i32⟩
  | .hbm, ⟨31, _⟩ => ⟨S8x16x512, .i32⟩
  | .hbm, ⟨32, _⟩ => ⟨S8x16x512x1, .i32⟩
  | .hbm, ⟨33, _⟩ => ⟨S8x16x512x1, .i32⟩
  | .hbm, ⟨34, _⟩ => ⟨S8x16x512x2, .i32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S8x4096x512 : Shape := ⟨3, ![8, 4096, 512]⟩
abbrev S8x4096x1536 : Shape := ⟨3, ![8, 4096, 1536]⟩
abbrev S8x4096x1024 : Shape := ⟨3, ![8, 4096, 1024]⟩
abbrev S8x1x1024 : Shape := ⟨3, ![8, 1, 1024]⟩
abbrev S1x1024 : Shape := ⟨2, ![1, 1024]⟩
abbrev S2048x1024 : Shape := ⟨2, ![2048, 1024]⟩
abbrev S1024x16 : Shape := ⟨2, ![1024, 16]⟩
abbrev S_ : Shape := ⟨0, ![]⟩
abbrev S1024x128 : Shape := ⟨2, ![1024, 128]⟩
abbrev S8x4096x128 : Shape := ⟨3, ![8, 4096, 128]⟩
abbrev S1x1024x512 : Shape := ⟨3, ![1, 1024, 512]⟩
abbrev S1x1024x1536 : Shape := ⟨3, ![1, 1024, 1536]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1024x512 : Shape := ⟨2, ![1024, 512]⟩
abbrev S512x1024 : Shape := ⟨2, ![512, 1024]⟩
abbrev S1024x1024 : Shape := ⟨2, ![1024, 1024]⟩
abbrev S1024x1536 : Shape := ⟨2, ![1024, 1536]⟩
abbrev S1536x1024 : Shape := ⟨2, ![1536, 1024]⟩
abbrev S1024 : Shape := ⟨1, ![1024]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S8x4096x512, .bf16⟩
  | .hbm, ⟨1, _⟩ => ⟨S8x4096x1536, .bf16⟩
  | .hbm, ⟨2, _⟩ => ⟨S8x4096x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S2048x1024, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S2048x1024, .bf16⟩
  | .hbm, ⟨13, _⟩ => ⟨S8x4096x1024, .f32⟩
  | .hbm, ⟨14, _⟩ => ⟨S8x4096x1024, .bf16⟩
  | .hbm, ⟨15, _⟩ => ⟨S8x4096x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S2048x1024, .bf16⟩
  | .local _ .vmem, ⟨14, _⟩ => ⟨S1024x128, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x128, .f32⟩
  | .local _ .vmem, ⟨20, _⟩ => ⟨S1x1024x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x4096x512 : Shape := ⟨3, ![8, 4096, 512]⟩
abbrev S8x4096x1536 : Shape := ⟨3, ![8, 4096, 1536]⟩
abbrev S8x4096x1024 : Shape := ⟨3, ![8, 4096, 1024]⟩
abbrev S8x1x1024 : Shape := ⟨3, ![8, 1, 1024]⟩
abbrev S1x1024 : Shape := ⟨2, ![1, 1024]⟩
abbrev S2048x1024 : Shape := ⟨2, ![2048, 1024]⟩
abbrev S1024x16 : Shape := ⟨2, ![1024, 16]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16 : Shape := ⟨3, ![8, 4096, 16]⟩
abbrev S8x4096x112 : Shape := ⟨3, ![8, 4096, 112]⟩
abbrev S8x4096x128 : Shape := ⟨3, ![8, 4096, 128]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x1536, .bf16⟩
  | .hbm, ⟨2, _⟩ => ⟨S8x4096x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S2048x1024, .f32⟩
  | .hbm, ⟨8, _⟩ => ⟨S1024x16, .f32⟩
  | .hbm, ⟨9, _⟩ => ⟨S8x4096x2048, .bf16⟩
  | .hbm, ⟨10, _⟩ => ⟨S8x4096x2048, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x16, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x16, .f32⟩
  | .hbm, ⟨43, _⟩ => ⟨S8x4096x16, .f32⟩
  | .hbm, ⟨44, _⟩ => ⟨S8x4096x16, .f32⟩
  | .hbm, ⟨45, _⟩ => ⟨S8x4096x1024, .bf16⟩
  | .hbm, ⟨46, _⟩ => ⟨S_, .f32⟩
  | .hbm, ⟨47, _⟩ => ⟨S8x4096x112, .f32⟩
  | .hbm, ⟨48, _⟩ => ⟨S8x4096x128, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x128, .f32⟩
  | .hbm, ⟨53, _⟩ => ⟨S8x4096x128, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x512 : Shape := ⟨2, ![1024, 512]⟩
abbrev S1024x4144 : Shape := ⟨2, ![1024, 4144]⟩
abbrev S5x2560 : Shape := ⟨2, ![5, 2560]⟩
abbrev S1x2560 : Shape := ⟨2, ![1, 2560]⟩
abbrev S2x24 : Shape := ⟨2, ![2, 24]⟩
abbrev S_ : Shape := ⟨0, ![]⟩
abbrev S1024x80 : Shape := ⟨2, ![1024, 80]⟩
abbrev S1024x5248 : Shape := ⟨2, ![1024, 5248]⟩
abbrev S1x48 : Shape := ⟨2, ![1, 48]⟩
abbrev S1x128 : Shape := ⟨2, ![1, 128]⟩
abbrev S8x4096x512 : Shape := ⟨3, ![8, 4096, 512]⟩
abbrev S8x4096x1536 : Shape := ⟨3, ![8, 4096, 1536]⟩
abbrev S8x4096x128 : Shape := ⟨3, ![8, 4096, 128]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1x512x512 : Shape := ⟨3, ![1, 512, 512]⟩
abbrev S1x512x1536 : Shape := ⟨3, ![1, 512, 1536]⟩
abbrev S1x512x128 : Shape := ⟨3, ![1, 512, 128]⟩
abbrev S528x512 : Shape := ⟨2, ![528, 512]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x128 : Shape := ⟨2, ![1024, 128]⟩
abbrev S512x128 : Shape := ⟨2, ![512, 128]⟩
abbrev S1024x256 : Shape := ⟨2, ![1024, 256]⟩
abbrev S512x256 : Shape := ⟨2, ![512, 256]⟩
abbrev S16x256 : Shape := ⟨2, ![16, 256]⟩
abbrev S8x256 : Shape := ⟨2, ![8, 256]⟩
abbrev S144x512 : Shape := ⟨2, ![144, 512]⟩
abbrev S1x512 : Shape := ⟨2, ![1, 512]⟩
abbrev S128x512 : Shape := ⟨2, ![128, 512]⟩
abbrev S1x128x512 : Shape := ⟨3, ![1, 128, 512]⟩
abbrev S1x512x256 : Shape := ⟨3, ![1, 512, 256]⟩

abbrev nBuf : Space → Nat
  | .hbm => 24
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x512, .f32⟩
  | .hbm, ⟨5, _⟩ => ⟨S1024x512, .f32⟩
  | .hbm, ⟨6, _⟩ => ⟨S1024x4144, .f32⟩
  | .hbm, ⟨7, _⟩ => ⟨S5x2560, .f32⟩
  | .hbm, ⟨8, _⟩ => ⟨S1x2560, .f32⟩
  | .hbm, ⟨9, _⟩ => ⟨S2x24, .f32⟩
  | .hbm, ⟨10, _⟩ => ⟨S_, .f32⟩
  | .hbm, ⟨11, _⟩ => ⟨S1024x80, .f32⟩
  | .hbm, ⟨12, _⟩ => ⟨S1024x5248, .f32⟩
  | .hbm, ⟨13, _⟩ => ⟨S1024x5248, .bf16⟩
  | .hbm, ⟨14, _⟩ => ⟨S1x48, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S8x4096x512, .bf16⟩
  | .hbm, ⟨19, _⟩ => ⟨S8x4096x512, .bf16⟩
  | .hbm, ⟨20, _⟩ => ⟨S8x4096x1536, .bf16⟩
  | .hbm, ⟨21, _⟩ => ⟨S8x4096x1536, .bf16⟩
  | .hbm, ⟨22, _⟩ => ⟨S8x4096x1024, .bf16⟩
  | .hbm, ⟨23, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x5248, .bf16⟩
  | .local _ .vmem, ⟨12, _⟩ => ⟨S5x2560, .f32⟩
  | .local _ .vmem, ⟨13, _⟩ => ⟨S1x2560, .f32⟩
  | .local _ .vmem, ⟨14, _⟩ => ⟨S1x128, .f32⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x1536, .bf16⟩
  | .local _ .vmem, ⟨20, _⟩ => ⟨S1x512x1536, .bf16⟩
  | .local _ .vmem, ⟨21, _⟩ => ⟨S1x512x1536, .bf16⟩
  | .local _ .vmem, ⟨22, _⟩ => ⟨S1x512x1536, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x128, .f32⟩
  | .local _ .vmem, ⟨26, _⟩ => ⟨S1x512x128, .f32⟩
  | .local _ .vmem, ⟨27, _⟩ => ⟨S528x512, .f32⟩
  | .local _ .vmem, ⟨28, _⟩ => ⟨S528x512, .f32⟩
  | .local _ .vmem, ⟨29, _⟩ => ⟨S528x512, .f32⟩
  | .local _ .vmem, ⟨30, _⟩ => ⟨S528x512, .f32⟩
  | .local _ .vmem, ⟨31, _⟩ => ⟨S528x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v5_4 : Ref sig .tc := ⟨.hbm, 22, rfl⟩
abbrev main_v5_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5248 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x512 : Shape := ⟨2, ![1024, 512]⟩
abbrev S1024x4144 : Shape := ⟨2, ![1024, 4144]⟩
abbrev S5x2560 : Shape := ⟨2, ![5, 2560]⟩
abbrev S1x2560 : Shape := ⟨2, ![1, 2560]⟩
abbrev S2x24 : Shape := ⟨2, ![2, 24]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S8x4096x4144 : Shape := ⟨3, ![8, 4096, 4144]⟩
abbrev S8x4096x1536 : Shape := ⟨3, ![8, 4096, 1536]⟩
abbrev S8x4096x2560 : Shape := ⟨3, ![8, 4096, 2560]⟩
abbrev S8x4096x48 : Shape := ⟨3, ![8, 4096, 48]⟩
abbrev S8x2x2560 : Shape := ⟨3, ![8, 2, 2560]⟩
abbrev S8x4100x2560 : Shape := ⟨3, ![8, 4100, 2560]⟩
abbrev S2560 : Shape := ⟨1, ![2560]⟩
abbrev S1x1x2560 : Shape := ⟨3, ![1, 1, 2560]⟩
abbrev S48 : Shape := ⟨1, ![48]⟩
abbrev S1x1x48 : Shape := ⟨3, ![1, 1, 48]⟩
abbrev S8x4096x80 : Shape := ⟨3, ![8, 4096, 80]⟩
abbrev S8x4096x128 : Shape := ⟨3, ![8, 4096, 128]⟩

abbrev nBuf : Space → Nat
  | .hbm => 118
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x512, .f32⟩
  | .hbm, ⟨5, _⟩ => ⟨S1024x512, .f32⟩
  | .hbm, ⟨6, _⟩ => ⟨S1024x4144, .f32⟩
  | .hbm, ⟨7, _⟩ => ⟨S5x2560, .f32⟩
  | .hbm, ⟨8, _⟩ => ⟨S1x2560, .f32⟩
  | .hbm, ⟨9, _⟩ => ⟨S2x24, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x512, .f32⟩
  | .hbm, ⟨34, _⟩ => ⟨S8x4096x512, .f32⟩
  | .hbm, ⟨35, _⟩ => ⟨S8x4096x4144, .f32⟩
  | .hbm, ⟨36, _⟩ => ⟨S8x4096x1536, .f32⟩
  | .hbm, ⟨37, _⟩ => ⟨S8x4096x2560, .f32⟩
  | .hbm, ⟨38, _⟩ => ⟨S8x4096x48, .f32⟩
  | .hbm, ⟨39, _⟩ => ⟨S_, .f32⟩
  | .hbm, ⟨40, _⟩ => ⟨S8x2x2560, .f32⟩
  | .hbm, ⟨41, _⟩ => ⟨S_, .f32⟩
  | .hbm, ⟨42, _⟩ => ⟨S8x2x2560, .f32⟩
  | .hbm, ⟨43, _⟩ => ⟨S8x4100x2560, .f32⟩
  | .hbm, ⟨44, _⟩ => ⟨S1x2560, .f32⟩
  | .hbm, ⟨45, _⟩ => ⟨S2560, .f32⟩
  | .hbm, ⟨46, _⟩ => ⟨S8x4096x2560, .f32⟩
  | .hbm, ⟨47, _⟩ => ⟨S1x1x2560, .f32⟩
  | .hbm, ⟨48, _⟩ => ⟨S8x4096x2560, .f32⟩
  | .hbm, ⟨49, _⟩ => ⟨S8x4096x2560, .f32⟩
  | .hbm, ⟨50, _⟩ => ⟨S1x2560, .f32⟩
  | .hbm, ⟨51, _⟩ => ⟨S2560, .f32⟩
  | .hbm, ⟨52, _⟩ => ⟨S8x4096x2560, .f32⟩
  | .hbm, ⟨53, _⟩ => ⟨S1x1x2560, .f32⟩
  | .hbm, ⟨54, _⟩ => ⟨S8x4096x2560, .f32⟩
  | .hbm, ⟨55, _⟩ => ⟨S8x4096x2560, .f32⟩
  | .hbm, ⟨56, _⟩ => ⟨S8x4096x2560, .f32⟩
  | .hbm, ⟨57, _⟩ => ⟨S1x2560, .f32⟩
  | .hbm, ⟨58, _⟩ => ⟨S2560, .f32⟩
  | .hbm, ⟨59, _⟩ => ⟨S8x4096x2560, .f32⟩
  | .hbm, ⟨60, _⟩ => ⟨S1x1x2560, .f32⟩
  | .hbm, ⟨61, _⟩ => ⟨S8x4096x2560, .f32⟩
  | .hbm, ⟨62, _⟩ => ⟨S8x4096x2560, .f32⟩
  | .hbm, ⟨63, _⟩ => ⟨S8x4096x2560, .f32⟩
  | .hbm, ⟨64, _⟩ => ⟨S1x2560, .f32⟩
  | .hbm, ⟨65, _⟩ => ⟨S2560, .f32⟩
  | .hbm, ⟨66, _⟩ => ⟨S8x4096x2560, .f32⟩
  | .hbm, ⟨67, _⟩ => ⟨S1x1x2560, .f32⟩
  | .hbm, ⟨68, _⟩ => ⟨S8x4096x2560, .f32⟩
  | .hbm, ⟨69, _⟩ => ⟨S8x4096x2560, .f32⟩
  | .hbm, ⟨70, _⟩ => ⟨S8x4096x2560, .f32⟩
  | .hbm, ⟨71, _⟩ => ⟨S1x2560, .f32⟩
  | .hbm, ⟨72, _⟩ => ⟨S2560, .f32⟩
  | .hbm, ⟨73, _⟩ => ⟨S8x4096x2560, .f32⟩
  | .hbm, ⟨74, _⟩ => ⟨S1x1x2560, .f32⟩
  | .hbm, ⟨75, _⟩ => ⟨S8x4096x2560, .f32⟩
  | .hbm, ⟨76, _⟩ => ⟨S8x4096x2560, .f32⟩
  | .hbm, ⟨77, _⟩ => ⟨S8x4096x2560, .f32⟩
  | .hbm, ⟨78, _⟩ => ⟨S1x1x2560, .f32⟩
  | .hbm, ⟨79, _⟩ => ⟨S8x4096x2560, .f32⟩
  | .hbm, ⟨80, _⟩ => ⟨S8x4096x2560, .f32⟩
  | .hbm, ⟨81, _⟩ => ⟨S8x4096x2560, .f32⟩
  | .hbm, ⟨82, _⟩ => ⟨S8x4096x2560, .f32⟩
  | .hbm, ⟨83, _⟩ => ⟨S_, .f32⟩
  | .hbm, ⟨84, _⟩ => ⟨S8x4096x2560, .f32⟩
  | .hbm, ⟨85, _⟩ => ⟨S8x4096x2560, .f32⟩
  | .hbm, ⟨86, _⟩ => ⟨S_, .f32⟩
  | .hbm, ⟨87, _⟩ => ⟨S8x4096x2560, .f32⟩
  | .hbm, ⟨88, _⟩ => ⟨S8x4096x2560, .f32⟩
  | .hbm, ⟨89, _⟩ => ⟨S8x4096x2560, .f32⟩
  | .hbm, ⟨90, _⟩ => ⟨S8x4096x1536, .f32⟩
  | .hbm, ⟨91, _⟩ => ⟨S8x4096x1024, .f32⟩
  | .hbm, ⟨92, _⟩ => ⟨S48, .f32⟩
  | .hbm, ⟨93, _⟩ => ⟨S1x1x48, .f32⟩
  | .hbm, ⟨94, _⟩ => ⟨S8x4096x48, .f32⟩
  | .hbm, ⟨95, _⟩ => ⟨S8x4096x48, .f32⟩
  | .hbm, ⟨96, _⟩ => ⟨S_, .f32⟩
  | .hbm, ⟨97, _⟩ => ⟨S8x4096x80, .f32⟩
  | .hbm, ⟨98, _⟩ => ⟨S8x4096x128, .f32⟩
  | .hbm, ⟨99, _⟩ => ⟨S_, .f32⟩
  | .hbm, ⟨100, _⟩ => ⟨S8x4096x128, .f32⟩
  | .hbm, ⟨101, _⟩ => ⟨S8x4096x128, .f32⟩
  | .hbm, ⟨102, _⟩ => ⟨S8x4096x128, .f32⟩
  | .hbm, ⟨103, _⟩ => ⟨S8x4096x128, .f32⟩
  | .hbm, ⟨104, _⟩ => ⟨S8x4096x128, .i1⟩
  | .hbm, ⟨105, _⟩ => ⟨S8x4096x128, .f32⟩
  | .hbm, ⟨106, _⟩ => ⟨S8x4096x128, .f32⟩
  | .hbm, ⟨107, _⟩ => ⟨S8x4096x128, .f32⟩
  | .hbm, ⟨108, _⟩ => ⟨S8x4096x128, .f32⟩
  | .hbm, ⟨109, _⟩ => ⟨S8x4096x128, .f32⟩
  | .hbm, ⟨110, _⟩ => ⟨S8x4096x128, .f32⟩
  | .hbm, ⟨111, _⟩ => ⟨S8x4096x128, .f32⟩
  | .hbm, ⟨112, _⟩ => ⟨S8x4096x128, .f32⟩
  | .hbm, ⟨113, _⟩ => ⟨S8x4096x512, .bf16⟩
  | .hbm, ⟨114, _⟩ => ⟨S8x4096x512, .bf16⟩
  | .hbm, ⟨115, _⟩ => ⟨S8x4096x1536, .bf16⟩
  | .hbm, ⟨116, _⟩ => ⟨S8x4096x1536, .bf16⟩
  | .hbm, ⟨117, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_5 : Ref sig .tc := ⟨.hbm, 96, rfl⟩
abbrev main_v72 : Ref sig .tc := ⟨.hbm, 97, rfl⟩
abbrev main_v73 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]
-- ==== Proof.FfnRun.lean ====
/- The expert feed-forward kernel, one grid point at a time: what one call of its body leaves in the weight scratch, the
   accumulator and the output block, in each of the four cases (first token block of an expert or a later one; first or
   second slab of the hidden axis). -/
module

public import proofs.«01_k».proof.Proof.Gen.KernelIdeal.Frame
public import proofs.«01_k».proof.Proof.Gen.KernelIdeal.Skeleton
public import Idealize.ShloMosaic.Lib.WritesUnit
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch "first slab of the hidden axis". -/
abbrev first (i : grid0.Coords) : Prop := (Scalar.cmpi .ne (Scalar.extui (Scalar.cmpi .eq (BitVec.ofNat 32 (i 2).val) 0#32)) 0#32) = 1#1
/-- The body's branch "a later slab". -/
abbrev later (i : grid0.Coords) : Prop := (Scalar.cmpi .ne (Scalar.extui (Scalar.cmpi .sgt (BitVec.ofNat 32 (i 2).val) 0#32)) 0#32) = 1#1

/-- A point's slab of the hidden axis. -/
def hid (i : grid0.Coords) : Fin 2 := i 2

/-- Slab `f` of a weight scratch, as the body loads it. -/
def slab (s : Vec F S2x1024x1024 .bf16) (f : Fin 2) : Vec F S1x1024x1024 .bf16 := fun x => s (ix3 f (x 1) (x 2))

/-- A weight scratch after slab `f` has been overwritten by `w`. -/
def put (s : Vec F S2x1024x1024 .bf16) (f : Fin 2) (w : Vec F S1x1024x1024 .bf16) : Vec F S2x1024x1024 .bf16 :=
  fun y => if (y 0).val = f.val then w (ix3 0 (y 1) (y 2)) else s y

/-- The slab just written reads back as what was written. -/
theorem slab_put (s : Vec F S2x1024x1024 .bf16) (f : Fin 2) (w : Vec F S1x1024x1024 .bf16) : slab (put s f w) f = w := by
  funext x
  unfold slab put
  rw [if_pos (by rfl)]
  congr 1
  exact (funext fun a => by fin_cases a <;> first | rfl | exact Subsingleton.elim (α := Fin 1) _ _)

/-- Writing one slab leaves the other. -/
theorem slab_put_ne (s : Vec F S2x1024x1024 .bf16) (f g : Fin 2) (w : Vec F S1x1024x1024 .bf16) (h : g ≠ f) :
    slab (put s f w) g = slab s g := by
  funext x
  unfold slab put
  rw [if_neg (by intro e; exact h (Fin.ext e))]

/-- Both slab offsets the body computes are `[f, 0, 0]` at hidden coordinate `f`. -/
theorem off2_eq (i : grid0.Coords) : k0_off2 i = ![(hid i).val, 0, 0] := by
  have h : (i 2).val < 2 := (i 2).isLt
  unfold k0_off2 hid
  generalize (i 2).val = n at h ⊢
  interval_cases n <;> rfl

theorem off1_eq (i : grid0.Coords) : k0_off1 i = ![(hid i).val, 0, 0] := off2_eq i

/-- A load of the slab at the body's offset is `slab`. -/
theorem ld_slab (s : Vec F S2x1024x1024 .bf16) (i : grid0.Coords) :
    View.ld (e' := .bf16) s (Rect.unit (s := S2x1024x1024) (k0_off2 i) S1x1024x1024.size (k0_off2_inb i)) = slab s (hid i) := by
  funext x
  unfold slab
  refine congrArg s (funext fun a => Fin.ext ?_)
  have h : ((Rect.unit (s := S2x1024x1024) (k0_off2 i) S1x1024x1024.size (k0_off2_inb i)).idx x a).val = k0_off2 i a + 1 * (x a).val := rfl
  refine h.trans ((congrArg (fun o : Fin 3 → ℕ => o a + 1 * (x a).val) (off2_eq i)).trans ?_)
  have h0 : (x 0).val < 1 := (x 0).isLt
  fin_cases a
  · show (hid i).val + 1 * (x 0).val = (hid i).val; omega
  · show 0 + 1 * (x 1).val = (x 1).val; omega
  · show 0 + 1 * (x 2).val = (x 2).val; omega

/-- What a whole weight scratch reads after the body's store of slab `f`. -/
theorem read_put (v : View sig .tc .vmem S2x1024x1024 .bf16) (f : v.ty.Contents (Elt F)) (i : grid0.Coords) (h : k0_cond1 i = 1#1)
    (w : Vec F S1x1024x1024 .bf16) :
    v.read (Elt F) (v.writes (Elt F) f [⟨Rect.unit (s := S2x1024x1024) (k0_off1 i) S1x1024x1024.size (k0_off1_inb i h), w⟩])
      = put (v.read (Elt F) f) (hid i) w := by
  funext y
  unfold put
  split
  · next hy =>
    refine View.read_writes_cons_unit_of_mem v f _ w [] y (ix3 0 (y 1) (y 2)) (off1_eq i) fun a => ?_
    fin_cases a
    · show (y 0).val = (hid i).val + 0; omega
    · show (y 1).val = 0 + (y 1).val; omega
    · show (y 2).val = 0 + (y 2).val; omega
  · next hy =>
    refine (View.read_writes_cons_unit_of_not_mem v f _ w [] y (off1_eq i) 0 ?_).trans rfl
    show (y 0).val < (hid i).val ∨ (hid i).val + 1 ≤ (y 0).val
    omega

/-- A covered load of the slab just stored reads what was stored. -/
theorem readCov_slab (v : View sig .tc .vmem S2x1024x1024 .bf16) (i : grid0.Coords) (h : k0_cond1 i = 1#1)
    (w : Vec F S1x1024x1024 .bf16) :
    v.readCov [⟨Rect.unit (s := S2x1024x1024) (k0_off1 i) S1x1024x1024.size (k0_off1_inb i h), w⟩]
      (Rect.unit (s := S2x1024x1024) (k0_off2 i) S1x1024x1024.size (k0_off2_inb i)).toLoadRect = w := by
  refine Eq.trans (b := View.ld (e' := .bf16) (v.read (Elt F) (v.writes (Elt F) v.junk [⟨Rect.unit (s := S2x1024x1024) (k0_off1 i) S1x1024x1024.size (k0_off1_inb i h), w⟩])) (Rect.unit (s := S2x1024x1024) (k0_off2 i) S1x1024x1024.size (k0_off2_inb i))) rfl ?_
  rw [read_put _ _ _ h, ld_slab, slab_put]

theorem z3 : (![0, 0, 0] : Fin 3 → ℕ) = fun _ => 0 := by funext a; fin_cases a <;> rfl
theorem z4 : (![0, 0, 0, 0] : Fin 4 → ℕ) = fun _ => 0 := by funext a; fin_cases a <;> rfl
theorem z2 : (![0, 0] : Fin 2 → ℕ) = fun _ => 0 := by funext a; fin_cases a <;> rfl

/-- A load of a whole weight block reads the block; -/
theorem ldW (v : View sig .tc .vmem S1x1024x1024 .f32) (f : v.ty.Contents (Elt F)) :
    View.readAt (Elt F) v (Rect.unit (s := S1x1024x1024) ![0, 0, 0] S1x1024x1024.size inb_S1x1024x1024_S1x1024x1024_0_0_0).toLoadRect f = v.read (Elt F) f :=
  View.ld_unit_zero z3 _ _
/-- of a whole token block likewise; -/
theorem ldX (v : View sig .tc .vmem S1x1x512x1024 .bf16) (f : v.ty.Contents (Elt F)) :
    View.readAt (Elt F) v (Rect.unit (s := S1x1x512x1024) ![0, 0, 0, 0] S1x1x512x1024.size inb_S1x1x512x1024_S1x1x512x1024_0_0_0_0).toLoadRect f = v.read (Elt F) f :=
  View.ld_unit_zero z4 _ _
/-- of the whole accumulator likewise; -/
theorem ldA (v : View sig .tc .vmem S512x1024 .f32) (f : v.ty.Contents (Elt F)) :
    View.readAt (Elt F) v (Rect.unit (s := S512x1024) ![0, 0] S512x1024.size inb_S512x1024_S512x1024_0_0).toLoadRect f = v.read (Elt F) f :=
  View.ld_unit_zero z2 _ _
/-- and of one slab of a weight scratch, the slab. -/
theorem ldS (v : View sig .tc .vmem S2x1024x1024 .bf16) (f : v.ty.Contents (Elt F)) (i : grid0.Coords) :
    View.readAt (Elt F) v (Rect.unit (s := S2x1024x1024) (k0_off2 i) S1x1024x1024.size (k0_off2_inb i)).toLoadRect f = slab (v.read (Elt F) f) (hid i) :=
  ld_slab _ i

/-- The accumulator after one whole store reads what was stored; -/
theorem readA (v : View sig .tc .vmem S512x1024 .f32) (f : v.ty.Contents (Elt F)) (w : Vec F S512x1024 .f32) :
    v.read (Elt F) (v.writes (Elt F) f [⟨Rect.unit (s := S512x1024) ![0, 0] S512x1024.size inb_S512x1024_S512x1024_0_0, w⟩]) = w := by
  funext y
  refine View.read_writes_cons_unit_of_mem v f _ w [] y y z2 fun a => by show (y a).val = 0 + (y a).val; omega
/-- the output block likewise; -/
theorem readO (v : View sig .tc .vmem S1x1x512x1024 .bf16) (f : v.ty.Contents (Elt F)) (w : Vec F S1x1x512x1024 .bf16) :
    v.read (Elt F) (v.writes (Elt F) f [⟨Rect.unit (s := S1x1x512x1024) ![0, 0, 0, 0] S1x1x512x1024.size inb_S1x1x512x1024_S1x1x512x1024_0_0_0_0, w⟩]) = w := by
  funext y
  refine View.read_writes_cons_unit_of_mem v f _ w [] y y z4 fun a => by show (y a).val = 0 + (y a).val; omega
/-- and a covered load of the accumulator reads the store before it. -/
theorem readCovA (v : View sig .tc .vmem S512x1024 .f32) (w : Vec F S512x1024 .f32) :
    v.readCov [⟨Rect.unit (s := S512x1024) ![0, 0] S512x1024.size inb_S512x1024_S512x1024_0_0, w⟩]
      (Rect.unit (s := S512x1024) ![0, 0] S512x1024.size inb_S512x1024_S512x1024_0_0).toLoadRect = w := by
  refine Eq.trans (b := View.readAt (Elt F) v (Rect.unit (s := S512x1024) ![0, 0] S512x1024.size inb_S512x1024_S512x1024_0_0).toLoadRect (v.writes (Elt F) v.junk [⟨Rect.unit (s := S512x1024) ![0, 0] S512x1024.size inb_S512x1024_S512x1024_0_0, w⟩])) rfl ?_
  rw [ldA, readA]

set_option maxHeartbeats 1000000 in
/-- First token block, first slab: the three weight slabs are cast into the scratch, the accumulator is set. -/
theorem runA (c : Dev nD) (i : grid0.Coords) (arg3 : Memref sig .tc .vmem S1x1x512x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x512x1024 .bf16) (harg7 : arg7.IsWhole) (arg8 : Memref sig .tc .vmem S2x1024x1024 .bf16) (harg8 : arg8.IsWhole) (arg9 : Memref sig .tc .vmem S2x1024x1024 .bf16) (harg9 : arg9.IsWhole) (arg10 : Memref sig .tc .vmem S2x1024x1024 .bf16) (harg10 : arg10.IsWhole) (arg11 : Memref sig .tc .vmem S512x1024 .f32) (harg11 : arg11.IsWhole)
    (hc1 : k0_cond1 i = 1#1) (hc2 : first i) (hc3 : ¬ later i) (hc4 : ¬ k0_cond4 i = 1#1)
    (x0 : Vec F S1x1x512x1024 .bf16) (x1 x2 x3 : Vec F S1x1024x1024 .f32) (x4 : Vec F S1x1x512x1024 .bf16)
    (s8 s9 s10 : Vec F S2x1024x1024 .bf16) (s11 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s8 ∗ owns (c : Thread nD τ) arg9 fullShare s9 ∗ owns (c : Thread nD τ) arg10 fullShare s10 ∗ owns (c : Thread nD τ) arg11 fullShare s11
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (put s8 (hid i) (k0_pay2 x1)) ∗ owns (c : Thread nD τ) arg9 fullShare (put s9 (hid i) (k0_pay3 x2)) ∗ owns (c : Thread nD τ) arg10 fullShare (put s10 (hid i) (k0_pay4 x3)) ∗ owns (c : Thread nD τ) arg11 fullShare (k0_pay6 x0 (k0_pay2 x1) (k0_pay3 x2) (k0_pay4 x3))) -∗ K ⟨⟩))
      ⊢ wp frame (wpE (defs₀ (F := F)) Variants.none c none) E (cc0_expert_ffn i arg3 harg3 arg4 harg4 arg5 harg5 arg6 harg6 arg7 harg7 arg8 harg8 arg9 harg9 arg10 harg10 arg11 harg11) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g8, %hg8, S8⟩, ⟨%g9, %hg9, S9⟩, ⟨%g10, %hg10, S10⟩, ⟨%g11, %hg11, S11⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hg8; obtain rfl := harg9.eq_unread hg9; obtain rfl := harg10.eq_unread hg10; obtain rfl := harg11.eq_unread hg11
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [S8]
  · iexists _; isplitr
    swap; · iexact S8
    ipureintro; unfold runA.sl.S8_1; (repeat first | rw [readA] | rw [readO] | rw [readCovA] | rw [readCov_slab] | rw [read_put] | rw [ldA] | rw [ldX] | rw [ldW] | rw [ldS] | rw [Memref.IsWhole.read_unread]) <;> exact hc1
  isplitl [S9]
  · iexists _; isplitr
    swap; · iexact S9
    ipureintro; unfold runA.sl.S9_1; (repeat first | rw [readA] | rw [readO] | rw [readCovA] | rw [readCov_slab] | rw [read_put] | rw [ldA] | rw [ldX] | rw [ldW] | rw [ldS] | rw [Memref.IsWhole.read_unread]) <;> exact hc1
  isplitl [S10]
  · iexists _; isplitr
    swap; · iexact S10
    ipureintro; unfold runA.sl.S10_1; (repeat first | rw [readA] | rw [readO] | rw [readCovA] | rw [readCov_slab] | rw [read_put] | rw [ldA] | rw [ldX] | rw [ldW] | rw [ldS] | rw [Memref.IsWhole.read_unread]) <;> exact hc1
  iexists _; isplitr
  swap; · iexact S11
  ipureintro; unfold runA.sl.v7 runA.sl.v11 runA.sl.v19 runA.sl.S8_1 runA.sl.S9_1 runA.sl.S10_1; (repeat first | rw [readA] | rw [readO] | rw [readCovA] | rw [readCov_slab] | rw [read_put] | rw [ldA] | rw [ldX] | rw [ldW] | rw [ldS] | rw [Memref.IsWhole.read_unread]) <;> exact hc1

set_option maxHeartbeats 1000000 in
/-- First token block, second slab: the slabs are cast into the scratch, the accumulator is added to and written out. -/
theorem runB (c : Dev nD) (i : grid0.Coords) (arg3 : Memref sig .tc .vmem S1x1x512x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x512x1024 .bf16) (harg7 : arg7.IsWhole) (arg8 : Memref sig .tc .vmem S2x1024x1024 .bf16) (harg8 : arg8.IsWhole) (arg9 : Memref sig .tc .vmem S2x1024x1024 .bf16) (harg9 : arg9.IsWhole) (arg10 : Memref sig .tc .vmem S2x1024x1024 .bf16) (harg10 : arg10.IsWhole) (arg11 : Memref sig .tc .vmem S512x1024 .f32) (harg11 : arg11.IsWhole)
    (hc1 : k0_cond1 i = 1#1) (hc2 : ¬ first i) (hc3 : later i) (hc4 : k0_cond4 i = 1#1)
    (x0 : Vec F S1x1x512x1024 .bf16) (x1 x2 x3 : Vec F S1x1024x1024 .f32) (x4 : Vec F S1x1x512x1024 .bf16)
    (s8 s9 s10 : Vec F S2x1024x1024 .bf16) (s11 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s8 ∗ owns (c : Thread nD τ) arg9 fullShare s9 ∗ owns (c : Thread nD τ) arg10 fullShare s10 ∗ owns (c : Thread nD τ) arg11 fullShare s11
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay1 (k0_pay7 x0 (k0_pay2 x1) (k0_pay3 x2) (k0_pay4 x3) s11)) ∗ owns (c : Thread nD τ) arg8 fullShare (put s8 (hid i) (k0_pay2 x1)) ∗ owns (c : Thread nD τ) arg9 fullShare (put s9 (hid i) (k0_pay3 x2)) ∗ owns (c : Thread nD τ) arg10 fullShare (put s10 (hid i) (k0_pay4 x3)) ∗ owns (c : Thread nD τ) arg11 fullShare (k0_pay7 x0 (k0_pay2 x1) (k0_pay3 x2) (k0_pay4 x3) s11)) -∗ K ⟨⟩))
      ⊢ wp frame (wpE (defs₀ (F := F)) Variants.none c none) E (cc0_expert_ffn i arg3 harg3 arg4 harg4 arg5 harg5 arg6 harg6 arg7 harg7 arg8 harg8 arg9 harg9 arg10 harg10 arg11 harg11) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g8, %hg8, S8⟩, ⟨%g9, %hg9, S9⟩, ⟨%g10, %hg10, S10⟩, ⟨%g11, %hg11, S11⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hg8; obtain rfl := harg9.eq_unread hg9; obtain rfl := harg10.eq_unread hg10; obtain rfl := harg11.eq_unread hg11
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; unfold runB.sl.v32 runB.sl.S11_1 runB.sl.v7 runB.sl.v11 runB.sl.v19 runB.sl.S8_1 runB.sl.S9_1 runB.sl.S10_1; (repeat first | rw [readA] | rw [readO] | rw [readCovA] | rw [readCov_slab] | rw [read_put] | rw [ldA] | rw [ldX] | rw [ldW] | rw [ldS] | rw [Memref.IsWhole.read_unread]) <;> exact hc1
  isplitl [S8]
  · iexists _; isplitr
    swap; · iexact S8
    ipureintro; unfold runB.sl.S8_1; (repeat first | rw [readA] | rw [readO] | rw [readCovA] | rw [readCov_slab] | rw [read_put] | rw [ldA] | rw [ldX] | rw [ldW] | rw [ldS] | rw [Memref.IsWhole.read_unread]) <;> exact hc1
  isplitl [S9]
  · iexists _; isplitr
    swap; · iexact S9
    ipureintro; unfold runB.sl.S9_1; (repeat first | rw [readA] | rw [readO] | rw [readCovA] | rw [readCov_slab] | rw [read_put] | rw [ldA] | rw [ldX] | rw [ldW] | rw [ldS] | rw [Memref.IsWhole.read_unread]) <;> exact hc1
  isplitl [S10]
  · iexists _; isplitr
    swap; · iexact S10
    ipureintro; unfold runB.sl.S10_1; (repeat first | rw [readA] | rw [readO] | rw [readCovA] | rw [readCov_slab] | rw [read_put] | rw [ldA] | rw [ldX] | rw [ldW] | rw [ldS] | rw [Memref.IsWhole.read_unread]) <;> exact hc1
  iexists _; isplitr
  swap; · iexact S11
  ipureintro; unfold runB.sl.S11_1 runB.sl.v7 runB.sl.v11 runB.sl.v19 runB.sl.S8_1 runB.sl.S9_1 runB.sl.S10_1; (repeat first | rw [readA] | rw [readO] | rw [readCovA] | rw [readCov_slab] | rw [read_put] | rw [ldA] | rw [ldX] | rw [ldW] | rw [ldS] | rw [Memref.IsWhole.read_unread]) <;> exact hc1

set_option maxHeartbeats 1000000 in
/-- A later token block, first slab: the cached slabs are used, the accumulator is set. -/
theorem runC (c : Dev nD) (i : grid0.Coords) (arg3 : Memref sig .tc .vmem S1x1x512x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x512x1024 .bf16) (harg7 : arg7.IsWhole) (arg8 : Memref sig .tc .vmem S2x1024x1024 .bf16) (harg8 : arg8.IsWhole) (arg9 : Memref sig .tc .vmem S2x1024x1024 .bf16) (harg9 : arg9.IsWhole) (arg10 : Memref sig .tc .vmem S2x1024x1024 .bf16) (harg10 : arg10.IsWhole) (arg11 : Memref sig .tc .vmem S512x1024 .f32) (harg11 : arg11.IsWhole)
    (hc1 : ¬ k0_cond1 i = 1#1) (hc2 : first i) (hc3 : ¬ later i) (hc4 : ¬ k0_cond4 i = 1#1)
    (x0 : Vec F S1x1x512x1024 .bf16) (x1 x2 x3 : Vec F S1x1024x1024 .f32) (x4 : Vec F S1x1x512x1024 .bf16)
    (s8 s9 s10 : Vec F S2x1024x1024 .bf16) (s11 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s8 ∗ owns (c : Thread nD τ) arg9 fullShare s9 ∗ owns (c : Thread nD τ) arg10 fullShare s10 ∗ owns (c : Thread nD τ) arg11 fullShare s11
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s8 ∗ owns (c : Thread nD τ) arg9 fullShare s9 ∗ owns (c : Thread nD τ) arg10 fullShare s10 ∗ owns (c : Thread nD τ) arg11 fullShare (k0_pay6 x0 (slab s8 (hid i)) (slab s9 (hid i)) (slab s10 (hid i)))) -∗ K ⟨⟩))
      ⊢ wp frame (wpE (defs₀ (F := F)) Variants.none c none) E (cc0_expert_ffn i arg3 harg3 arg4 harg4 arg5 harg5 arg6 harg6 arg7 harg7 arg8 harg8 arg9 harg9 arg10 harg10 arg11 harg11) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g8, %hg8, S8⟩, ⟨%g9, %hg9, S9⟩, ⟨%g10, %hg10, S10⟩, ⟨%g11, %hg11, S11⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hg8; obtain rfl := harg9.eq_unread hg9; obtain rfl := harg10.eq_unread hg10; obtain rfl := harg11.eq_unread hg11
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [S8]
  · iexists _; isplitr
    swap; · iexact S8
    ipureintro; exact harg8.read_unread _
  isplitl [S9]
  · iexists _; isplitr
    swap; · iexact S9
    ipureintro; exact harg9.read_unread _
  isplitl [S10]
  · iexists _; isplitr
    swap; · iexact S10
    ipureintro; exact harg10.read_unread _
  iexists _; isplitr
  swap; · iexact S11
  ipureintro; (repeat first | rw [readA] | rw [readO] | rw [readCovA] | rw [readCov_slab] | rw [read_put] | rw [ldA] | rw [ldX] | rw [ldW] | rw [ldS] | rw [Memref.IsWhole.read_unread])

set_option maxHeartbeats 1000000 in
/-- A later token block, second slab: the cached slabs are used, the accumulator is added to and written out. -/
theorem runD (c : Dev nD) (i : grid0.Coords) (arg3 : Memref sig .tc .vmem S1x1x512x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x512x1024 .bf16) (harg7 : arg7.IsWhole) (arg8 : Memref sig .tc .vmem S2x1024x1024 .bf16) (harg8 : arg8.IsWhole) (arg9 : Memref sig .tc .vmem S2x1024x1024 .bf16) (harg9 : arg9.IsWhole) (arg10 : Memref sig .tc .vmem S2x1024x1024 .bf16) (harg10 : arg10.IsWhole) (arg11 : Memref sig .tc .vmem S512x1024 .f32) (harg11 : arg11.IsWhole)
    (hc1 : ¬ k0_cond1 i = 1#1) (hc2 : ¬ first i) (hc3 : later i) (hc4 : k0_cond4 i = 1#1)
    (x0 : Vec F S1x1x512x1024 .bf16) (x1 x2 x3 : Vec F S1x1024x1024 .f32) (x4 : Vec F S1x1x512x1024 .bf16)
    (s8 s9 s10 : Vec F S2x1024x1024 .bf16) (s11 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s8 ∗ owns (c : Thread nD τ) arg9 fullShare s9 ∗ owns (c : Thread nD τ) arg10 fullShare s10 ∗ owns (c : Thread nD τ) arg11 fullShare s11
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay1 (k0_pay7 x0 (slab s8 (hid i)) (slab s9 (hid i)) (slab s10 (hid i)) s11)) ∗ owns (c : Thread nD τ) arg8 fullShare s8 ∗ owns (c : Thread nD τ) arg9 fullShare s9 ∗ owns (c : Thread nD τ) arg10 fullShare s10 ∗ owns (c : Thread nD τ) arg11 fullShare (k0_pay7 x0 (slab s8 (hid i)) (slab s9 (hid i)) (slab s10 (hid i)) s11)) -∗ K ⟨⟩))
      ⊢ wp frame (wpE (defs₀ (F := F)) Variants.none c none) E (cc0_expert_ffn i arg3 harg3 arg4 harg4 arg5 harg5 arg6 harg6 arg7 harg7 arg8 harg8 arg9 harg9 arg10 harg10 arg11 harg11) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g8, %hg8, S8⟩, ⟨%g9, %hg9, S9⟩, ⟨%g10, %hg10, S10⟩, ⟨%g11, %hg11, S11⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hg8; obtain rfl := harg9.eq_unread hg9; obtain rfl := harg10.eq_unread hg10; obtain rfl := harg11.eq_unread hg11
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; unfold runD.sl.v32 runD.sl.S11_1; (repeat first | rw [readA] | rw [readO] | rw [readCovA] | rw [readCov_slab] | rw [read_put] | rw [ldA] | rw [ldX] | rw [ldW] | rw [ldS] | rw [Memref.IsWhole.read_unread])
  isplitl [S8]
  · iexists _; isplitr
    swap; · iexact S8
    ipureintro; exact harg8.read_unread _
  isplitl [S9]
  · iexists _; isplitr
    swap; · iexact S9
    ipureintro; exact harg9.read_unread _
  isplitl [S10]
  · iexists _; isplitr
    swap; · iexact S10
    ipureintro; exact harg10.read_unread _
  iexists _; isplitr
  swap; · iexact S11
  ipureintro; unfold runD.sl.S11_1; (repeat first | rw [readA] | rw [readO] | rw [readCovA] | rw [readCov_slab] | rw [read_put] | rw [ldA] | rw [ldX] | rw [ldW] | rw [ldS] | rw [Memref.IsWhole.read_unread])

end Cert.KernelIdeal.Body

end
-- ==== Proof.FfnFrame.lean ====
/- The expert feed-forward kernel over the whole grid: the weight scratch holds an expert's slabs from the moment they are
   cast until the expert changes, the accumulator holds the first slab's part between the two slabs, and every point with
   the second slab writes out the sum. From this the run, and the frame. -/
module

public import proofs.«01_k».proof.Proof.FfnRun

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points: expert, token block and slab are base 16, 2 digits of the point's number -/

theorem cast_iff : ∀ t : Fin cfg0.N, k0_cond1 (grid0.coords t) = 1#1 ↔ t.val % 16 < 2 :=
  (by decide +kernel : ∀ t : Fin grid0.N, k0_cond1 (grid0.coords t) = 1#1 ↔ t.val % 16 < 2)
theorem first_iff : ∀ t : Fin cfg0.N, first (grid0.coords t) ↔ t.val % 2 = 0 :=
  (by decide +kernel : ∀ t : Fin grid0.N, first (grid0.coords t) ↔ t.val % 2 = 0)
theorem later_iff : ∀ t : Fin cfg0.N, later (grid0.coords t) ↔ t.val % 2 = 1 :=
  (by decide +kernel : ∀ t : Fin grid0.N, later (grid0.coords t) ↔ t.val % 2 = 1)
theorem out_iff : ∀ t : Fin cfg0.N, k0_cond4 (grid0.coords t) = 1#1 ↔ t.val % 2 = 1 :=
  (by decide +kernel : ∀ t : Fin grid0.N, k0_cond4 (grid0.coords t) = 1#1 ↔ t.val % 2 = 1)
theorem hid_val : ∀ t : Fin cfg0.N, (hid (grid0.coords t)).val = t.val % 2 :=
  (by decide +kernel : ∀ t : Fin grid0.N, ((grid0.coords t) 2).val = t.val % 2)
theorem idle_even : ∀ t : Fin cfg0.N, t.val % 2 = 0 → cfg0.idle 4 (grid0.coords t) = true := by decide +kernel
theorem live_odd : ∀ t : Fin cfg0.N, t.val % 2 = 1 → cfg0.idle 4 (grid0.coords t) = false := by decide +kernel
theorem noFlush_even : ∀ t : Fin cfg0.N, t.val % 2 = 0 → (cfg0.win 4).flush t = false := by decide +kernel

/-- Window 0's staging memref at point `t`. -/
abbrev ms0 (t : Fin cfg0.N) : Memref sig .tc .vmem S1x1x512x1024 .bf16 := win0_0.stage (cfg0.slots t 0)
abbrev hs0 (t : Fin cfg0.N) : (ms0 t).IsWhole := hstage0_0 ((cfg0.slots t 0).cast nbuf0_0)
/-- Window 1's staging memref at point `t`. -/
abbrev ms1 (t : Fin cfg0.N) : Memref sig .tc .vmem S1x1024x1024 .f32 := win0_1.stage (cfg0.slots t 1)
abbrev hs1 (t : Fin cfg0.N) : (ms1 t).IsWhole := hstage0_1 ((cfg0.slots t 1).cast nbuf0_1)
/-- Window 2's staging memref at point `t`. -/
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
/-- Window 3's staging memref at point `t`. -/
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
/-- Window 4's staging memref at point `t`. -/
abbrev ms4 (t : Fin cfg0.N) : Memref sig .tc .vmem S1x1x512x1024 .bf16 := win0_4.stage (cfg0.slots t 4)
abbrev hs4 (t : Fin cfg0.N) : (ms4 t).IsWhole := hstage0_4 ((cfg0.slots t 4).cast nbuf0_4)
abbrev sc0 : Memref sig .tc .vmem S2x1024x1024 .bf16 := Memref.whole cc0_scratch0
abbrev sc1 : Memref sig .tc .vmem S2x1024x1024 .bf16 := Memref.whole cc0_scratch1
abbrev sc2 : Memref sig .tc .vmem S2x1024x1024 .bf16 := Memref.whole cc0_scratch2
abbrev sc3 : Memref sig .tc .vmem S512x1024 .f32 := Memref.whole cc0_scratch3

/-- What the launch hands the region: the four scratch buffers at anything, the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What the scratch holds -/

/-- The grid point numbered `n`. -/
def pt (n : ℕ) : Fin cfg0.N := ⟨n % 256, lt_of_lt_of_eq (Nat.mod_lt _ (by decide)) N_0.symm⟩

theorem pt_val (t : Fin cfg0.N) : pt t.val = t := by
  have h : t.val < 256 := lt_of_lt_of_eq t.isLt N_0
  exact Fin.ext (Nat.mod_eq_of_lt h)

/-- Expert `n / 16`'s gate slab `f`, cast, -/
def gateW (c : Dev nD) (n f : ℕ) : Vec F S1x1024x1024 .bf16 := k0_pay2 (iblk m c 1 (pt (16 * (n / 16) + f)))
/-- its up slab, -/
def upW (c : Dev nD) (n f : ℕ) : Vec F S1x1024x1024 .bf16 := k0_pay3 (iblk m c 2 (pt (16 * (n / 16) + f)))
/-- and its down slab. -/
def downW (c : Dev nD) (n f : ℕ) : Vec F S1x1024x1024 .bf16 := k0_pay4 (iblk m c 3 (pt (16 * (n / 16) + f)))

/-- The first slab's part, for the token block of points `n` and `n + 1`, `n` even. -/
def part0 (c : Dev nD) (n : ℕ) : Vec F S512x1024 .f32 :=
  k0_pay6 (iblk m c 0 (pt (2 * (n / 2)))) (gateW m c n 0) (upW m c n 0) (downW m c n 0)
/-- Both slabs' parts added. -/
def total (c : Dev nD) (n : ℕ) : Vec F S512x1024 .f32 :=
  k0_pay7 (iblk m c 0 (pt n)) (gateW m c n 1) (upW m c n 1) (downW m c n 1) (part0 m c n)

/-- What is known of the scratch before point `n`. -/
structure Known (c : Dev nD) (n : ℕ) (s8 s9 s10 : Vec F S2x1024x1024 .bf16) (s11 : Vec F S512x1024 .f32) : Prop where
  slab0 : 1 ≤ n % 16 → slab s8 0 = gateW m c n 0 ∧ slab s9 0 = upW m c n 0 ∧ slab s10 0 = downW m c n 0
  slab1 : 2 ≤ n % 16 → slab s8 1 = gateW m c n 1 ∧ slab s9 1 = upW m c n 1 ∧ slab s10 1 = downW m c n 1
  acc : n % 2 = 1 → s11 = part0 m c n

theorem gateW_congr (c : Dev nD) {n n' : ℕ} (h : n / 16 = n' / 16) (f : ℕ) : gateW m c n f = gateW m c n' f := by unfold gateW; rw [h]
theorem upW_congr (c : Dev nD) {n n' : ℕ} (h : n / 16 = n' / 16) (f : ℕ) : upW m c n f = upW m c n' f := by unfold upW; rw [h]
theorem downW_congr (c : Dev nD) {n n' : ℕ} (h : n / 16 = n' / 16) (f : ℕ) : downW m c n f = downW m c n' f := by unfold downW; rw [h]

/-- The region invariant before point `n`. -/
def Phi (c : Dev nD) (n : ℕ) : sProp 𝕄 :=
  iprop(∃ s8 s9 s10 s11, ⌜Known m c n s8 s9 s10 s11⌝ ∗ owns (c : Thread nD τ) sc0 fullShare s8 ∗ owns (c : Thread nD τ) sc1 fullShare s9
    ∗ owns (c : Thread nD τ) sc2 fullShare s10 ∗ owns (c : Thread nD τ) sc3 fullShare s11 ∗ (∃ r, prngReg c r))

/-- The proof data: inputs stay at their blocks, the output block holds the cast sum at the second slab's points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (total m c t.val)
  Φ t := Phi m c t.val
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay1 (total m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The invariant is kept -/

theorem hid_eq0 (t : Fin cfg0.N) (h : t.val % 2 = 0) : hid (grid0.coords t) = 0 := Fin.ext ((hid_val t).trans h)
theorem hid_eq1 (t : Fin cfg0.N) (h : t.val % 2 = 1) : hid (grid0.coords t) = 1 := Fin.ext ((hid_val t).trans h)

theorem knownA (c : Dev nD) (t : Fin cfg0.N) (hb : t.val % 16 < 2) (h : t.val % 2 = 0) {s8 s9 s10 : Vec F S2x1024x1024 .bf16} {s11 : Vec F S512x1024 .f32}
    (K : Known m c t.val s8 s9 s10 s11) : Known m c (t.val + 1) (put s8 (hid (grid0.coords t)) (k0_pay2 (iblk m c 1 t))) (put s9 (hid (grid0.coords t)) (k0_pay3 (iblk m c 2 t))) (put s10 (hid (grid0.coords t)) (k0_pay4 (iblk m c 3 t))) (k0_pay6 (iblk m c 0 t) (k0_pay2 (iblk m c 1 t)) (k0_pay3 (iblk m c 2 t)) (k0_pay4 (iblk m c 3 t))) := by
  have hf : hid (grid0.coords t) = 0 := hid_eq0 t h
  have e0 : k0_pay2 (iblk m c 1 t) = gateW m c t.val 0 := by unfold gateW; rw [show 16 * (t.val / 16) + 0 = t.val by omega, pt_val]
  have e1 : k0_pay3 (iblk m c 2 t) = upW m c t.val 0 := by unfold upW; rw [show 16 * (t.val / 16) + 0 = t.val by omega, pt_val]
  have e2 : k0_pay4 (iblk m c 3 t) = downW m c t.val 0 := by unfold downW; rw [show 16 * (t.val / 16) + 0 = t.val by omega, pt_val]
  rw [e0, e1, e2]
  refine ⟨fun h1 => ?_, fun h2 => ?_, fun h3 => ?_⟩
  · have hd : t.val / 16 = (t.val + 1) / 16 := by omega
    rw [← gateW_congr m c hd, ← upW_congr m c hd, ← downW_congr m c hd]
    rw [hf]; exact ⟨slab_put _ _ _, slab_put _ _ _, slab_put _ _ _⟩
  · exfalso; omega
  · have hd : t.val / 16 = (t.val + 1) / 16 := by omega
    unfold part0
    rw [← gateW_congr m c hd, ← upW_congr m c hd, ← downW_congr m c hd, show 2 * ((t.val + 1) / 2) = t.val by omega, pt_val]

theorem knownB (c : Dev nD) (t : Fin cfg0.N) (hb : t.val % 16 < 2) (h : t.val % 2 = 1) {s8 s9 s10 : Vec F S2x1024x1024 .bf16} {s11 : Vec F S512x1024 .f32}
    (K : Known m c t.val s8 s9 s10 s11) : Known m c (t.val + 1) (put s8 (hid (grid0.coords t)) (k0_pay2 (iblk m c 1 t))) (put s9 (hid (grid0.coords t)) (k0_pay3 (iblk m c 2 t))) (put s10 (hid (grid0.coords t)) (k0_pay4 (iblk m c 3 t))) (k0_pay7 (iblk m c 0 t) (k0_pay2 (iblk m c 1 t)) (k0_pay3 (iblk m c 2 t)) (k0_pay4 (iblk m c 3 t)) s11) := by
  have hf : hid (grid0.coords t) = 1 := hid_eq1 t h
  have e0 : k0_pay2 (iblk m c 1 t) = gateW m c t.val 1 := by unfold gateW; rw [show 16 * (t.val / 16) + 1 = t.val by omega, pt_val]
  have e1 : k0_pay3 (iblk m c 2 t) = upW m c t.val 1 := by unfold upW; rw [show 16 * (t.val / 16) + 1 = t.val by omega, pt_val]
  have e2 : k0_pay4 (iblk m c 3 t) = downW m c t.val 1 := by unfold downW; rw [show 16 * (t.val / 16) + 1 = t.val by omega, pt_val]
  rw [e0, e1, e2]
  refine ⟨fun h1 => ?_, fun h2 => ?_, fun h3 => ?_⟩
  · have hd : t.val / 16 = (t.val + 1) / 16 := by omega
    rw [← gateW_congr m c hd, ← upW_congr m c hd, ← downW_congr m c hd]
    rw [hf, slab_put_ne _ _ _ _ (by decide), slab_put_ne _ _ _ _ (by decide), slab_put_ne _ _ _ _ (by decide)]; exact K.slab0 (by omega)
  · have hd : t.val / 16 = (t.val + 1) / 16 := by omega
    rw [← gateW_congr m c hd, ← upW_congr m c hd, ← downW_congr m c hd]
    rw [hf]; exact ⟨slab_put _ _ _, slab_put _ _ _, slab_put _ _ _⟩
  · exfalso; omega

theorem outB (c : Dev nD) (t : Fin cfg0.N) (hb : t.val % 16 < 2) (h : t.val % 2 = 1) {s8 s9 s10 : Vec F S2x1024x1024 .bf16} {s11 : Vec F S512x1024 .f32}
    (K : Known m c t.val s8 s9 s10 s11) : (k0_pay7 (iblk m c 0 t) (k0_pay2 (iblk m c 1 t)) (k0_pay3 (iblk m c 2 t)) (k0_pay4 (iblk m c 3 t)) s11) = total m c t.val := by
  have hf : hid (grid0.coords t) = 1 := hid_eq1 t h
  have e0 : k0_pay2 (iblk m c 1 t) = gateW m c t.val 1 := by unfold gateW; rw [show 16 * (t.val / 16) + 1 = t.val by omega, pt_val]
  have e1 : k0_pay3 (iblk m c 2 t) = upW m c t.val 1 := by unfold upW; rw [show 16 * (t.val / 16) + 1 = t.val by omega, pt_val]
  have e2 : k0_pay4 (iblk m c 3 t) = downW m c t.val 1 := by unfold downW; rw [show 16 * (t.val / 16) + 1 = t.val by omega, pt_val]
  rw [e0, e1, e2, K.acc h]
  unfold total
  rw [pt_val]

theorem knownC (c : Dev nD) (t : Fin cfg0.N) (hb : ¬ t.val % 16 < 2) (h : t.val % 2 = 0) {s8 s9 s10 : Vec F S2x1024x1024 .bf16} {s11 : Vec F S512x1024 .f32}
    (K : Known m c t.val s8 s9 s10 s11) : Known m c (t.val + 1) s8 s9 s10 (k0_pay6 (iblk m c 0 t) (slab s8 (hid (grid0.coords t))) (slab s9 (hid (grid0.coords t))) (slab s10 (hid (grid0.coords t)))) := by
  have hf : hid (grid0.coords t) = 0 := hid_eq0 t h
  have e0 : slab s8 (hid (grid0.coords t)) = gateW m c t.val 0 := by rw [hf]; exact (K.slab0 (by omega)).1
  have e1 : slab s9 (hid (grid0.coords t)) = upW m c t.val 0 := by rw [hf]; exact (K.slab0 (by omega)).2.1
  have e2 : slab s10 (hid (grid0.coords t)) = downW m c t.val 0 := by rw [hf]; exact (K.slab0 (by omega)).2.2
  rw [e0, e1, e2]
  refine ⟨fun h1 => ?_, fun h2 => ?_, fun h3 => ?_⟩
  · have hd : t.val / 16 = (t.val + 1) / 16 := by omega
    rw [← gateW_congr m c hd, ← upW_congr m c hd, ← downW_congr m c hd]
    exact K.slab0 (by omega)
  · have hd : t.val / 16 = (t.val + 1) / 16 := by omega
    rw [← gateW_congr m c hd, ← upW_congr m c hd, ← downW_congr m c hd]
    exact K.slab1 (by omega)
  · have hd : t.val / 16 = (t.val + 1) / 16 := by omega
    unfold part0
    rw [← gateW_congr m c hd, ← upW_congr m c hd, ← downW_congr m c hd, show 2 * ((t.val + 1) / 2) = t.val by omega, pt_val]

theorem knownD (c : Dev nD) (t : Fin cfg0.N) (hb : ¬ t.val % 16 < 2) (h : t.val % 2 = 1) {s8 s9 s10 : Vec F S2x1024x1024 .bf16} {s11 : Vec F S512x1024 .f32}
    (K : Known m c t.val s8 s9 s10 s11) : Known m c (t.val + 1) s8 s9 s10 (k0_pay7 (iblk m c 0 t) (slab s8 (hid (grid0.coords t))) (slab s9 (hid (grid0.coords t))) (slab s10 (hid (grid0.coords t))) s11) := by
  have hf : hid (grid0.coords t) = 1 := hid_eq1 t h
  have e0 : slab s8 (hid (grid0.coords t)) = gateW m c t.val 1 := by rw [hf]; exact (K.slab1 (by omega)).1
  have e1 : slab s9 (hid (grid0.coords t)) = upW m c t.val 1 := by rw [hf]; exact (K.slab1 (by omega)).2.1
  have e2 : slab s10 (hid (grid0.coords t)) = downW m c t.val 1 := by rw [hf]; exact (K.slab1 (by omega)).2.2
  rw [e0, e1, e2]
  refine ⟨fun h1 => ?_, fun h2 => ?_, fun h3 => ?_⟩
  · have hd : t.val / 16 = (t.val + 1) / 16 := by omega
    rw [← gateW_congr m c hd, ← upW_congr m c hd, ← downW_congr m c hd]
    exact K.slab0 (by omega)
  · have hd : t.val / 16 = (t.val + 1) / 16 := by omega
    rw [← gateW_congr m c hd, ← upW_congr m c hd, ← downW_congr m c hd]
    exact K.slab1 (by omega)
  · exfalso; omega

theorem outD (c : Dev nD) (t : Fin cfg0.N) (hb : ¬ t.val % 16 < 2) (h : t.val % 2 = 1) {s8 s9 s10 : Vec F S2x1024x1024 .bf16} {s11 : Vec F S512x1024 .f32}
    (K : Known m c t.val s8 s9 s10 s11) : (k0_pay7 (iblk m c 0 t) (slab s8 (hid (grid0.coords t))) (slab s9 (hid (grid0.coords t))) (slab s10 (hid (grid0.coords t))) s11) = total m c t.val := by
  have hf : hid (grid0.coords t) = 1 := hid_eq1 t h
  have e0 : slab s8 (hid (grid0.coords t)) = gateW m c t.val 1 := by rw [hf]; exact (K.slab1 (by omega)).1
  have e1 : slab s9 (hid (grid0.coords t)) = upW m c t.val 1 := by rw [hf]; exact (K.slab1 (by omega)).2.1
  have e2 : slab s10 (hid (grid0.coords t)) = downW m c t.val 1 := by rw [hf]; exact (K.slab1 (by omega)).2.2
  rw [e0, e1, e2, K.acc h]
  unfold total
  rw [pt_val]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after_0]

theorem leaves_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after_1]

theorem leaves_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after_2]

theorem leaves_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [show cfg0.idle 3 (grid0.coords t) = false from rfl], after_3]

theorem leaves_4 (c : Dev nD) (t : Fin cfg0.N) (h : t.val % 2 = 1) : (dats m 0 c).leavesExact 4 t = owns (c : Thread nD τ) (ms4 t) fullShare (k0_pay1 (total m c t.val)) := by
  rw [show (dats m 0 c).leavesExact 4 t = owns (c : Thread nD τ) (ms4 t) fullShare ((dats m 0 c).after 4 t) from by
    unfold Dat.leavesExact; rw [live_odd t h], after_4]

set_option maxHeartbeats 1600000 in
/-- The body keeps the invariant and leaves what the proof data say, at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, leaves_0, leaves_1, leaves_2, leaves_3]
  rw [show (dats m 0 c).owesAt () t.succ = (dats m 0 c).owesAt () t.castSucc from rfl]
  rw [show (dats m 0 c).Φ t.succ = Phi m c (t.val + 1) from rfl, Phi_castSucc]
  unfold Phi
  by_cases h : t.val % 2 = 0
  · by_cases hb : t.val % 16 < 2
    · skip
      rw [Dat.leavesExact_idle (dats m 0 c) 4 t (idle_even t h) (noFlush_even t h)]
      iintro ⟨⟨%s8, %s9, %s10, %s11, %K, S8, S9, S10, S11, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ ((cast_iff t).mpr hb) ((first_iff t).mpr h) (fun hx => by have := (later_iff t).mp hx; omega) (fun hx => by have := (out_iff t).mp hx; omega) (iblk m c 0 t) (iblk m c 1 t) (iblk m c 2 t) (iblk m c 3 t) _ s8 s9 s10 s11 Set.univ _)
      isplitl [H0]; · iexact H0
      isplitl [H1]; · iexact H1
      isplitl [H2]; · iexact H2
      isplitl [H3]; · iexact H3
      isplitl [H4]; · iexact H4
      isplitl [S8]; · iexact S8
      isplitl [S9]; · iexact S9
      isplitl [S10]; · iexact S10
      isplitl [S11]; · iexact S11
      iintro ⟨H0, H1, H2, H3, H4, S8, S9, S10, S11⟩
      isplitl [S8 S9 S10 S11 Hg]
      · iexists _; iexists _; iexists _; iexists _
        isplitr; · ipureintro; exact knownA m c t hb h K
        isplitl [S8]; · iexact S8
        isplitl [S9]; · iexact S9
        isplitl [S10]; · iexact S10
        isplitl [S11]; · iexact S11
        iexact Hg
      isplitl [Ho]; · iexact Ho
      isplitl [H0]; · iexact H0
      isplitl [H1]; · iexact H1
      isplitl [H2]; · iexact H2
      isplitl [H3]; · iexact H3
      iexists _; iexact H4
    · skip
      rw [Dat.leavesExact_idle (dats m 0 c) 4 t (idle_even t h) (noFlush_even t h)]
      iintro ⟨⟨%s8, %s9, %s10, %s11, %K, S8, S9, S10, S11, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ _ _ (fun hx => hb ((cast_iff t).mp hx)) ((first_iff t).mpr h) (fun hx => by have := (later_iff t).mp hx; omega) (fun hx => by have := (out_iff t).mp hx; omega) (iblk m c 0 t) (iblk m c 1 t) (iblk m c 2 t) (iblk m c 3 t) _ s8 s9 s10 s11 Set.univ _)
      isplitl [H0]; · iexact H0
      isplitl [H1]; · iexact H1
      isplitl [H2]; · iexact H2
      isplitl [H3]; · iexact H3
      isplitl [H4]; · iexact H4
      isplitl [S8]; · iexact S8
      isplitl [S9]; · iexact S9
      isplitl [S10]; · iexact S10
      isplitl [S11]; · iexact S11
      iintro ⟨H0, H1, H2, H3, H4, S8, S9, S10, S11⟩
      isplitl [S8 S9 S10 S11 Hg]
      · iexists _; iexists _; iexists _; iexists _
        isplitr; · ipureintro; exact knownC m c t hb h K
        isplitl [S8]; · iexact S8
        isplitl [S9]; · iexact S9
        isplitl [S10]; · iexact S10
        isplitl [S11]; · iexact S11
        iexact Hg
      isplitl [Ho]; · iexact Ho
      isplitl [H0]; · iexact H0
      isplitl [H1]; · iexact H1
      isplitl [H2]; · iexact H2
      isplitl [H3]; · iexact H3
      iexists _; iexact H4
  · replace h : t.val % 2 = 1 := by omega
    by_cases hb : t.val % 16 < 2
    · skip
      rw [leaves_4 m c t h]
      iintro ⟨⟨%s8, %s9, %s10, %s11, %K, S8, S9, S10, S11, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ _ _ ((cast_iff t).mpr hb) (fun hx => by have := (first_iff t).mp hx; omega) ((later_iff t).mpr h) ((out_iff t).mpr h) (iblk m c 0 t) (iblk m c 1 t) (iblk m c 2 t) (iblk m c 3 t) _ s8 s9 s10 s11 Set.univ _)
      isplitl [H0]; · iexact H0
      isplitl [H1]; · iexact H1
      isplitl [H2]; · iexact H2
      isplitl [H3]; · iexact H3
      isplitl [H4]; · iexact H4
      isplitl [S8]; · iexact S8
      isplitl [S9]; · iexact S9
      isplitl [S10]; · iexact S10
      isplitl [S11]; · iexact S11
      iintro ⟨H0, H1, H2, H3, H4, S8, S9, S10, S11⟩
      isplitl [S8 S9 S10 S11 Hg]
      · iexists _; iexists _; iexists _; iexists _
        isplitr; · ipureintro; exact knownB m c t hb h K
        isplitl [S8]; · iexact S8
        isplitl [S9]; · iexact S9
        isplitl [S10]; · iexact S10
        isplitl [S11]; · iexact S11
        iexact Hg
      isplitl [Ho]; · iexact Ho
      isplitl [H0]; · iexact H0
      isplitl [H1]; · iexact H1
      isplitl [H2]; · iexact H2
      isplitl [H3]; · iexact H3
      rw [← outB m c t hb h K]; iexact H4
    · skip
      rw [leaves_4 m c t h]
      iintro ⟨⟨%s8, %s9, %s10, %s11, %K, S8, S9, S10, S11, Hg⟩, Ho, ⟨%d0, H0⟩, ⟨%d1, H1⟩, ⟨%d2, H2⟩, ⟨%d3, H3⟩, ⟨%d4, H4⟩⟩
      iapply (runD c (grid0.coords t) _ _ _ _ _ _ _ _ _ _ _ _ _ _ _ _ _ _ (fun hx => hb ((cast_iff t).mp hx)) (fun hx => by have := (first_iff t).mp hx; omega) ((later_iff t).mpr h) ((out_iff t).mpr h) (iblk m c 0 t) (iblk m c 1 t) (iblk m c 2 t) (iblk m c 3 t) _ s8 s9 s10 s11 Set.univ _)
      isplitl [H0]; · iexact H0
      isplitl [H1]; · iexact H1
      isplitl [H2]; · iexact H2
      isplitl [H3]; · iexact H3
      isplitl [H4]; · iexact H4
      isplitl [S8]; · iexact S8
      isplitl [S9]; · iexact S9
      isplitl [S10]; · iexact S10
      isplitl [S11]; · iexact S11
      iintro ⟨H0, H1, H2, H3, H4, S8, S9, S10, S11⟩
      isplitl [S8 S9 S10 S11 Hg]
      · iexists _; iexists _; iexists _; iexists _
        isplitr; · ipureintro; exact knownD m c t hb h K
        isplitl [S8]; · iexact S8
        isplitl [S9]; · iexact S9
        isplitl [S10]; · iexact S10
        isplitl [S11]; · iexact S11
        iexact Hg
      isplitl [Ho]; · iexact Ho
      isplitl [H0]; · iexact H0
      isplitl [H1]; · iexact H1
      isplitl [H2]; · iexact H2
      isplitl [H3]; · iexact H3
      rw [← outD m c t hb h K]; iexact H4

/-- The body table's row at point `t`'s slots is the body. -/
theorem row_eq (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands over is the invariant before the first point: nothing is known yet. -/
theorem hin (c : Dev nD) : Pipeline.ΦA spec0 c ⊢ (dats m 0 c).Φ 0 := by
  rw [show (dats m 0 c).Φ 0 = Phi m c 0 from rfl, PhiA_eq]
  unfold Phi
  iintro ⟨⟨⟨%s8, S8⟩, ⟨%s9, S9⟩, ⟨%s10, S10⟩, ⟨%s11, S11⟩⟩, Hg⟩
  iexists s8; iexists s9; iexists s10; iexists s11
  isplitr; · ipureintro; exact ⟨fun h => absurd h (by decide), fun h => absurd h (by decide), fun h => absurd h (by decide)⟩
  isplitl [S8]; · iexact S8
  isplitl [S9]; · iexact S9
  isplitl [S10]; · iexact S10
  isplitl [S11]; · iexact S11
  iexact Hg

/-- After the last point the scratch is given back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%s8, %s9, %s10, %s11, -, S8, S9, S10, S11, Hg⟩
  isplitl [S8 S9 S10 S11]
  · isplitl [S8]; · iexists s8; iexact S8
    isplitl [S9]; · iexists s9; iexact S9
    isplitl [S10]; · iexists s10; iexact S10
    iexists s11; iexact S11
  iexact Hg

/-! ## The run and the frame -/

set_option backward.isDefEq.respectTransparency.types false in
/-- The program runs to the end; every array is then what the proof data say and every semaphore counter is zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelIdeal.Body

end
-- ==== Proof.FfnValue.lean ====
module

public import proofs.«01_k».proof.Proof.FfnFrame
public import proofs.«01_k».proof.Proof.Gen.ReferenceIdeal
public import Idealize.ShloMosaic.Lib.Pipeline.ValueKit
public import Idealize.ShloMosaic.Lib.Pointwise

@[expose] public section

set_option maxRecDepth 16384

noncomputable section

namespace Cert.KernelIdeal.FfnValue

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- One of the reference's two first products, in the reference's layout `[batch, expert, slot, hidden]`. -/
abbrev REFproj (X : FVec Ideal Cert.ReferenceIdeal.S8x16x512x1024 .bf16) (Wt : FVec Ideal Cert.ReferenceIdeal.S16x1024x2048 .f32) :
    FVec Ideal Cert.ReferenceIdeal.S8x16x512x2048 .f32 :=
  transpose Cert.ReferenceIdeal.S8x16x512x2048 [2, 0, 3, 1]
    (Host.dotGeneral Cert.ReferenceIdeal.dot_S16x1024x2048_S8x16x512x1024_S16x2048x8x512_1_3_2_02_0_1 none Wt
      (extf .f32 X Cert.ReferenceIdeal.Gen.bitsLt_bf16_f32)) Cert.ReferenceIdeal.Gen.transposes_S16x2048x8x512_S8x16x512x2048_2_0_3_1

/-- The scalar one, spread over the hidden layer's shape. -/
abbrev REFone : FVec Ideal Cert.ReferenceIdeal.S8x16x512x2048 .f32 :=
  broadcastInDim Cert.ReferenceIdeal.S8x16x512x2048 ![] Cert.ReferenceIdeal.Gen.bcast_S_S8x16x512x2048
    (constant Cert.ReferenceIdeal.S_ .f32 1065353216#32)

/-- The reference's gated hidden layer: `silu (x · gate) * (x · up)`. -/
abbrev REFhid (X : FVec Ideal Cert.ReferenceIdeal.S8x16x512x1024 .bf16) (Wg Wu : FVec Ideal Cert.ReferenceIdeal.S16x1024x2048 .f32) :
    FVec Ideal Cert.ReferenceIdeal.S8x16x512x2048 .f32 :=
  mulf (mulf (REFproj X Wg) (Host.divf REFone (addf REFone (Host.exp (Host.negf (REFproj X Wg)))))) (REFproj X Wu)

/-- The reference's result as its printed operations compute it. -/
abbrev REF (X : FVec Ideal Cert.ReferenceIdeal.S8x16x512x1024 .bf16) (Wg Wu : FVec Ideal Cert.ReferenceIdeal.S16x1024x2048 .f32)
    (Wd : FVec Ideal Cert.ReferenceIdeal.S16x2048x1024 .f32) : FVec Ideal Cert.ReferenceIdeal.S8x16x512x1024 .bf16 :=
  truncf .bf16 (transpose Cert.ReferenceIdeal.S8x16x512x1024 [2, 0, 3, 1]
    (Host.dotGeneral Cert.ReferenceIdeal.dot_S16x2048x1024_S8x16x512x2048_S16x1024x8x512_1_3_2_02_0_1 none Wd
      (REFhid X Wg Wu)) Cert.ReferenceIdeal.Gen.transposes_S16x1024x8x512_S8x16x512x1024_2_0_3_1) Cert.ReferenceIdeal.Gen.bitsLt_bf16_f32

/-- The blocks the windows stage at point `n` of the grid, in closed form: `n = 16 * expert + 2 * batch + half`. -/
theorem idx : ∀ t : Fin cfg0.N,
    win0_0.index t = ![t.val % 16 / 2, t.val / 16, 0, 0]
    ∧ win0_1.index t = ![t.val / 16, 0, if t.val % 16 < 2 then t.val % 2 else 1]
    ∧ win0_2.index t = ![t.val / 16, 0, if t.val % 16 < 2 then t.val % 2 else 1]
    ∧ win0_3.index t = ![t.val / 16, if t.val % 16 < 2 then t.val % 2 else 1, 0]
    ∧ win0_4.index t = ![t.val % 16 / 2, t.val / 16, 0, 0] :=
  (by decide +kernel : ∀ t : Fin grid0.N, _)

/-- The points that staged the two halves of expert `n / 16`'s weights, and the two points of a batch member. -/
theorem pt_vals (n : ℕ) (h : n < 256) :
    (pt (2 * (n / 2))).val = 2 * (n / 2) ∧ (pt (16 * (n / 16))).val = 16 * (n / 16)
    ∧ (pt (16 * (n / 16) + 1)).val = 16 * (n / 16) + 1 :=
  ⟨Nat.mod_eq_of_lt (by omega), Nat.mod_eq_of_lt (by omega), Nat.mod_eq_of_lt (by omega)⟩

/-- One hidden unit's contribution with the factors of every product in the kernel's order and in the reference's: the
    logistic of the kernel is the reference's quotient `1 / (1 + exp (-g))`. -/
theorem unit_eq (A G U : Fin 1024 → EReal) (d : EReal) :
    ((∑ k, A k * G k) * Ideal.logistic (∑ k, A k * G k) * ∑ k, A k * U k) * d
      = d * ((∑ k, G k * A k) * Ideal.div 1 (1 + Ideal.exp (-∑ k, G k * A k)) * ∑ k, U k * A k) := by
  rw [mul_comm, Finset.sum_congr rfl fun k _ => mul_comm (A k) (G k), Finset.sum_congr rfl fun k _ => mul_comm (A k) (U k)]
  rfl

section Reads

variable (c : Dev nD) (t : Fin cfg0.N) (y : S1x1x512x1024.Idx)

/-- Where the element `y` of the block written at point `t` lies in the result. -/
abbrev at4 : S8x16x512x1024.Idx := ((View.whole main_v0).slice ((win0 4).rect t)).emb y

/-- The token rows staged at the point that flushes are the rows of the result's block. -/
theorem x_late (k : Fin 1024) : iblk m c 0 t (ix4 0 0 (y 2) k)
    = m (c.tc.loc main_arg0) (ix4 (at4 t y 0) (at4 t y 1) (at4 t y 2) k) := by
  have e := idx t
  blk_point [at4, iblk, V, e]

/-- The point before staged the same token rows. -/
theorem x_early (k : Fin 1024) : iblk m c 0 (pt (2 * (t.val / 2))) (ix4 0 0 (y 2) k)
    = m (c.tc.loc main_arg0) (ix4 (at4 t y 0) (at4 t y 1) (at4 t y 2) k) := by
  have ht : t.val < 256 := lt_of_lt_of_eq t.isLt N_0
  obtain ⟨h0, h1, h2⟩ := pt_vals t.val ht
  have e := idx t
  have e' := (idx (pt (2 * (t.val / 2)))).1
  rw [h0] at e'
  blk_point [at4, iblk, V, e, e']

/-- Half 0 of the gate weights of the point's expert, as staged for the expert's first batch member. -/
theorem gate0 (k f : Fin 1024) : iblk m c 1 (pt (16 * (t.val / 16))) (ix3 0 k f) = m (c.tc.loc main_arg1) (ix3 (at4 t y 1) k ⟨f.val, by omega⟩) := by
  have ht : t.val < 256 := lt_of_lt_of_eq t.isLt N_0
  obtain ⟨h0, h1, h2⟩ := pt_vals t.val ht
  have e := (idx t).2.2.2.2
  have e' := (idx (pt (16 * (t.val / 16)))).2.1
  rw [h1, if_pos (show 16 * (t.val / 16) % 16 < 2 by omega), show 16 * (t.val / 16) % 2 = 0 by omega, show 16 * (t.val / 16) / 16 = t.val / 16 by omega] at e'
  blk_point [at4, iblk, V, e, e']

/-- Half 1 of the gate weights of the point's expert, as staged for the expert's first batch member. -/
theorem gate1 (k f : Fin 1024) : iblk m c 1 (pt (16 * (t.val / 16) + 1)) (ix3 0 k f) = m (c.tc.loc main_arg1) (ix3 (at4 t y 1) k ⟨1024 + f.val, by omega⟩) := by
  have ht : t.val < 256 := lt_of_lt_of_eq t.isLt N_0
  obtain ⟨h0, h1, h2⟩ := pt_vals t.val ht
  have e := (idx t).2.2.2.2
  have e' := (idx (pt (16 * (t.val / 16) + 1))).2.1
  rw [h2, if_pos (show (16 * (t.val / 16) + 1) % 16 < 2 by omega), show (16 * (t.val / 16) + 1) % 2 = 1 by omega, show (16 * (t.val / 16) + 1) / 16 = t.val / 16 by omega] at e'
  blk_point [at4, iblk, V, e, e']

/-- Half 0 of the up weights of the point's expert, as staged for the expert's first batch member. -/
theorem up0 (k f : Fin 1024) : iblk m c 2 (pt (16 * (t.val / 16))) (ix3 0 k f) = m (c.tc.loc main_arg2) (ix3 (at4 t y 1) k ⟨f.val, by omega⟩) := by
  have ht : t.val < 256 := lt_of_lt_of_eq t.isLt N_0
  obtain ⟨h0, h1, h2⟩ := pt_vals t.val ht
  have e := (idx t).2.2.2.2
  have e' := (idx (pt (16 * (t.val / 16)))).2.2.1
  rw [h1, if_pos (show 16 * (t.val / 16) % 16 < 2 by omega), show 16 * (t.val / 16) % 2 = 0 by omega, show 16 * (t.val / 16) / 16 = t.val / 16 by omega] at e'
  blk_point [at4, iblk, V, e, e']

/-- Half 1 of the up weights of the point's expert, as staged for the expert's first batch member. -/
theorem up1 (k f : Fin 1024) : iblk m c 2 (pt (16 * (t.val / 16) + 1)) (ix3 0 k f) = m (c.tc.loc main_arg2) (ix3 (at4 t y 1) k ⟨1024 + f.val, by omega⟩) := by
  have ht : t.val < 256 := lt_of_lt_of_eq t.isLt N_0
  obtain ⟨h0, h1, h2⟩ := pt_vals t.val ht
  have e := (idx t).2.2.2.2
  have e' := (idx (pt (16 * (t.val / 16) + 1))).2.2.1
  rw [h2, if_pos (show (16 * (t.val / 16) + 1) % 16 < 2 by omega), show (16 * (t.val / 16) + 1) % 2 = 1 by omega, show (16 * (t.val / 16) + 1) / 16 = t.val / 16 by omega] at e'
  blk_point [at4, iblk, V, e, e']

/-- Half 0 of the down weights of the point's expert, as staged for the expert's first batch member. -/
theorem down0 (k : Fin 1024) : iblk m c 3 (pt (16 * (t.val / 16))) (ix3 0 k (y 3)) = m (c.tc.loc main_arg3) (ix3 (at4 t y 1) ⟨k.val, by omega⟩ (at4 t y 3)) := by
  have ht : t.val < 256 := lt_of_lt_of_eq t.isLt N_0
  obtain ⟨h0, h1, h2⟩ := pt_vals t.val ht
  have e := (idx t).2.2.2.2
  have e' := (idx (pt (16 * (t.val / 16)))).2.2.2.1
  rw [h1, if_pos (show 16 * (t.val / 16) % 16 < 2 by omega), show 16 * (t.val / 16) % 2 = 0 by omega, show 16 * (t.val / 16) / 16 = t.val / 16 by omega] at e'
  blk_point [at4, iblk, V, e, e']

/-- Half 1 of the down weights of the point's expert, as staged for the expert's first batch member. -/
theorem down1 (k : Fin 1024) : iblk m c 3 (pt (16 * (t.val / 16) + 1)) (ix3 0 k (y 3)) = m (c.tc.loc main_arg3) (ix3 (at4 t y 1) ⟨1024 + k.val, by omega⟩ (at4 t y 3)) := by
  have ht : t.val < 256 := lt_of_lt_of_eq t.isLt N_0
  obtain ⟨h0, h1, h2⟩ := pt_vals t.val ht
  have e := (idx t).2.2.2.2
  have e' := (idx (pt (16 * (t.val / 16) + 1))).2.2.2.1
  rw [h2, if_pos (show (16 * (t.val / 16) + 1) % 16 < 2 by omega), show (16 * (t.val / 16) + 1) % 2 = 1 by omega, show (16 * (t.val / 16) + 1) / 16 = t.val / 16 by omega] at e'
  blk_point [at4, iblk, V, e, e']

end Reads

/-- What a flushing point writes is, element by element, the reference's term over the arguments. -/
theorem point (c : Dev nD) (t : Fin cfg0.N) (hf : (cfg0.win 4).flush t = true) (y : S1x1x512x1024.Idx) :
    k0_pay1 (total m c t.val) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  have h : t.val % 2 = 1 := (flush0_4 t).mp hf
  pointwise [k0_pay1, total, k0_pay7, part0, k0_pay6, k0_pay5, gateW, upW, downW, k0_pay2, k0_pay3, k0_pay4, REF]
  rw [Fin.sum_univ_two_halves 1024 1024 rfl, pt_val t]
  simp only [x_early m c t y]
  simp only [x_late m c t y, gate0 m c t y, gate1 m c t y, up0 m c t y, up1 m c t y, down0 m c t y, down1 m c t y]
  exact congrArg₂ (· + ·) (Finset.sum_congr rfl fun f _ => unit_eq _ _ _ _) (Finset.sum_congr rfl fun f _ => unit_eq _ _ _ _)

/-- The array the launch leaves is the reference's term at the launch's arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after_4]
  exact point m c t hf y

end Cert.KernelIdeal.FfnValue

end
-- ==== Proof.FfnClaim.lean ====
module

public import proofs.«01_k».proof.Defs
public import proofs.«01_k».proof.Proof.FfnValue
public import Idealize.ShloMosaic.Lib.Claim
public import Idealize.ShloMosaic.Adequacy
public import Idealize.ShloMosaic.Init

@[expose] public section

set_option maxRecDepth 16384

noncomputable section

namespace Cert.FfnClaim

open Idealize.ShloMosaic Idealize.SL.Sem

set_option maxHeartbeats 1600000 in
/-- The reference of the feed-forward call leaves its arguments alone and, declaring no semaphore, every counter at zero. -/
theorem frameRef : Cert.quiescent_ReferenceIdeal := by
  intro m g _
  hlo_run
  · exact fun _ => ⟨trivial, trivial, trivial, trivial⟩
  · funext x
    obtain ⟨a, s⟩ := x
    exact s.casesOn (fun s => s.elim0) (fun s => s.elim0)

set_option maxHeartbeats 1600000 in
/-- The feed-forward call and its reference end with the same array. -/
theorem same : Cert.algebraic_KernelIdeal_ReferenceIdeal := by
  pair_intro
  · run_from Cert.KernelIdeal.Body.run_main m g
  · hlo_run
    exact (Cert.KernelIdeal.FfnValue.final m c).symm

end Cert.FfnClaim

end
-- ==== Proof.CombineFrames.lean ====
module

public import proofs.«01_k».proof.Defs
public import proofs.«01_k».proof.Proof.Gen.Reference2Ideal
public import Idealize.ShloMosaic.Lib.Claim
public import Idealize.ShloMosaic.Adequacy
public import Idealize.ShloMosaic.Init

@[expose] public section

set_option maxRecDepth 16384

noncomputable section

namespace Cert.CombineFrames

open Idealize.ShloMosaic Idealize.SL.Sem

set_option maxHeartbeats 1600000 in
/-- The reference of the combine call leaves its arguments alone and, declaring no semaphore, every counter at zero. -/
theorem frameRef : Cert.quiescent_Reference2Ideal := by
  intro m g _
  hlo_run
  · exact fun _ => ⟨trivial, trivial, trivial, trivial, trivial⟩
  · funext x
    obtain ⟨a, s⟩ := x
    exact s.casesOn (fun s => s.elim0) (fun s => s.elim0)

end Cert.CombineFrames

end
-- ==== Proof.CombineHot.lean ====
module

public import proofs.«01_k».proof.Proof.Gen.Kernel2Ideal
public import proofs.«01_k».proof.Proof.Gen.Kernel2Ideal.Frame
public import Idealize.ShloMosaic.Lib.Pipeline.ValueKit
public import Idealize.ShloMosaic.Lib.Pointwise
public import Idealize.ShloMosaic.Lib.WordCmp

@[expose] public section

set_option maxRecDepth 16384

noncomputable section

namespace Cert.Kernel2Ideal.Hot

open Idealize.ShloMosaic Idealize.ShloMosaic.TcCoe Idealize.ShloMosaic.Tactic
open Idealize.SL.Sem
open Cert.Kernel2Ideal Cert.Kernel2Ideal.Gen

/-- The weighted one-hot matrix of a point: in the row of a token and the column of a pick, the pick's probability when
    the pick is that token, and zero otherwise. Eight experts' columns stand side by side. -/
abbrev hot (i : grid0.Coords) (B0 : Vec Ideal S1x8x1x512 .i32) (B1 : Vec Ideal S1x8x1x512 .f32) : FVec Ideal S1024x4096 .bf16 :=
  k0_pay12 (k0_pay4 i)
    (k0_pay5 i (View.ld B0 (Rect.unit ![0, 0, 0, 0] ![1, 1, 1, 512] inb_S1x8x1x512_S1x1x1x512_0_0_0_0))
      (View.ld B1 (Rect.unit ![0, 0, 0, 0] ![1, 1, 1, 512] inb_S1x8x1x512_S1x1x1x512_0_0_0_0)))
    (k0_pay6 i (View.ld B0 (Rect.unit ![0, 1, 0, 0] ![1, 1, 1, 512] inb_S1x8x1x512_S1x1x1x512_0_1_0_0))
      (View.ld B1 (Rect.unit ![0, 1, 0, 0] ![1, 1, 1, 512] inb_S1x8x1x512_S1x1x1x512_0_1_0_0)))
    (k0_pay8 (k0_pay4 i) (k0_pay7 (View.ld B0 (Rect.unit ![0, 2, 0, 0] ![1, 1, 1, 512] inb_S1x8x1x512_S1x1x1x512_0_2_0_0)))
      (View.ld B1 (Rect.unit ![0, 2, 0, 0] ![1, 1, 1, 512] inb_S1x8x1x512_S1x1x1x512_0_2_0_0)))
    (k0_pay9 (k0_pay4 i) (View.ld B0 (Rect.unit ![0, 3, 0, 0] ![1, 1, 1, 512] inb_S1x8x1x512_S1x1x1x512_0_3_0_0))
      (View.ld B1 (Rect.unit ![0, 3, 0, 0] ![1, 1, 1, 512] inb_S1x8x1x512_S1x1x1x512_0_3_0_0)))
    (k0_pay10 (k0_pay4 i) (View.ld B0 (Rect.unit ![0, 4, 0, 0] ![1, 1, 1, 512] inb_S1x8x1x512_S1x1x1x512_0_4_0_0))
      (View.ld B1 (Rect.unit ![0, 4, 0, 0] ![1, 1, 1, 512] inb_S1x8x1x512_S1x1x1x512_0_4_0_0)))
    (k0_pay11 (View.ld B0 (Rect.unit ![0, 5, 0, 0] ![1, 1, 1, 512] inb_S1x8x1x512_S1x1x1x512_0_5_0_0)))
    (View.ld B1 (Rect.unit ![0, 5, 0, 0] ![1, 1, 1, 512] inb_S1x8x1x512_S1x1x1x512_0_5_0_0))
    (View.ld B0 (Rect.unit ![0, 6, 0, 0] ![1, 1, 1, 512] inb_S1x8x1x512_S1x1x1x512_0_6_0_0))
    (View.ld B1 (Rect.unit ![0, 6, 0, 0] ![1, 1, 1, 512] inb_S1x8x1x512_S1x1x1x512_0_6_0_0))
    (View.ld B0 (Rect.unit ![0, 7, 0, 0] ![1, 1, 1, 512] inb_S1x8x1x512_S1x1x1x512_0_7_0_0))
    (View.ld B1 (Rect.unit ![0, 7, 0, 0] ![1, 1, 1, 512] inb_S1x8x1x512_S1x1x1x512_0_7_0_0))

/-- The word a point numbers its row `r` by: the token's number in its batch member. -/
theorem token_at (i : grid0.Coords) (r : Fin 1024) (s : Fin 512) :
    (k0_pay4 i (ix2 r s)).toNat = (i 1).val * 1024 + r.val := by
  pointwise [k0_pay4]
  have h : (i 1).val < 4 := (i 1).isLt
  show (BitVec.ofNat 32 (i 1).val * 1024#32 + BitVec.ofNat 32 r.val).toNat = _
  rw [BitVec.toNat_add, BitVec.toNat_mul, BitVec.toNat_ofNat, BitVec.toNat_ofNat, BitVec.toNat_ofNat]
  omega

/-- The one-hot matrix's entry for a row and one of an expert's picks. -/
theorem hot_at (i : grid0.Coords) (B0 : Vec Ideal S1x8x1x512 .i32) (B1 : Vec Ideal S1x8x1x512 .f32) (r : Fin 1024) (e : Fin 8) (s : Fin 512) :
    hot i B0 B1 (ix2 r ⟨e.val * 512 + s.val, by omega⟩)
      = if (B0 (ix4 0 e 0 s)).toNat = (i 1).val * 1024 + r.val then (B1 (ix4 0 e 0 s) : EReal) else 0 := by
  rw [← token_at i r s]
  have hb : Scalar.select (IntOp.cmpi .eq (k0_pay4 i (ix2 r s)) (B0 (ix4 0 e 0 s))) (B1 (ix4 0 e 0 s)) (0 : EReal)
      = if (B0 (ix4 0 e 0 s)).toNat = (k0_pay4 i (ix2 r s)).toNat then (B1 (ix4 0 e 0 s) : EReal) else 0 := by
    rw [WordCmp.cmpi_eq_eq_toNat]
    by_cases h : (k0_pay4 i (ix2 r s)).toNat = (B0 (ix4 0 e 0 s)).toNat
    · rw [if_pos h.symm, decide_eq_true h]; rfl
    · rw [if_neg fun q => h q.symm, decide_eq_false h]; rfl
  rw [← hb]
  clear hb
  fin_cases e <;> pointwise [hot, k0_pay12, k0_pay5, k0_pay6, k0_pay7, k0_pay8, k0_pay9, k0_pay10, k0_pay11] <;> blk_point []

/-- The scratch after a point: what it held, plus the one-hot matrix times the eight experts' outputs. -/
theorem acc_at (H : FVec Ideal S1024x4096 .bf16) (acc : Vec Ideal S1024x1024 .f32) (B2 : Vec Ideal S1x8x512x1024 .bf16) (r d : Fin 1024) :
    k0_pay1 H acc B2 (ix2 r d)
      = (acc (ix2 r d) : EReal) + ∑ e : Fin 8, ∑ s : Fin 512, (H (ix2 r ⟨e.val * 512 + s.val, by omega⟩) : EReal) * B2 (ix4 0 e s d) := by
  pointwise [k0_pay1]
  rw [Fin.sum_univ_tiles 8 512 rfl]
  blk_point []

/-- The scratch starts a block of tokens at zero. -/
theorem zero_at (j : S1024x1024.Idx) : (k0_pay3 (F := Ideal) j : EReal) = 0 := by
  pointwise [k0_pay3]

/-- What is written for a row: the row `K` of the residual stream plus the gated mixture, normalised and scaled. -/
theorem norm_at (X : Vec Ideal S1x1024x1024 .f32) (G : Vec Ideal S1x1x1024 .f32) (A : Vec Ideal S1024x1024 .f32) (N : Vec Ideal S1x1024 .f32) (r d : Fin 1024)
    (K : Fin 1024 → EReal) (hK : ∀ x, (X (ix3 0 r x) + G (ix3 0 0 x) * A (ix2 r x) : EReal) = K x) :
    k0_pay2 (F := Ideal) X G A N (ix3 0 r d)
      = K d * Ideal.rsqrt (Ideal.div (∑ x, K x * K x) (Ideal.ofBits FTy.f32 1149239296#32) + Ideal.ofBits FTy.f32 897988541#32) * N (ix2 0 d) := by
  simp only [← hK]
  pointwise [k0_pay2]

end Cert.Kernel2Ideal.Hot

end
-- ==== Proof.CombineRef.lean ====
module

public import proofs.«01_k».proof.Proof.Gen.Reference2Ideal
public import Idealize.ShloMosaic.Lib.Pipeline.ValueKit
public import Idealize.ShloMosaic.Lib.Pointwise
public import Idealize.ShloMosaic.Lib.Routing.OpsPair

@[expose] public section

set_option maxRecDepth 16384

noncomputable section

namespace Cert.CombineRef

open Idealize.ShloMosaic Idealize.ShloMosaic.TcCoe Idealize.ShloMosaic.Tactic
open Cert.Reference2Ideal Cert.Reference2Ideal.Gen

/-- The router's probabilities of the sixteen experts, expert by expert. -/
abbrev scores (P : FVec Ideal S8x4096x128 .f32) : FVec Ideal S8x16x4096 .f32 :=
  transpose S8x16x4096 [0, 2, 1] (extractStridedSlice S8x4096x16 ![0, 0, 0] P slices_S8x4096x128_S8x4096x16_0_0_0)
    transposes_S8x4096x16_S8x16x4096_0_2_1

/-- Each expert's 512 greatest probabilities and the tokens they belong to. -/
abbrev picks (P : FVec Ideal S8x4096x128 .f32) : FVec Ideal S8x16x512 .f32 × IVec S8x16x512 32 :=
  Host.topK S8x16x512 2 (FloatOps.cmpfTotal .gt) (scores P) sliceFits_S8x16x4096_S8x16x512

/-- The batch member of every pick, negative numbers counted from the end (there are none). -/
abbrev batchWords : IVec S8x1x1 32 :=
  select
    (cmpi .slt (broadcastInDim S8x1x1 ![0] bcast_S8_S8x1x1_0 (iotaInDim S8 32 0)) (broadcastInDim S8x1x1 ![] bcast_S_S8x1x1 (constantI S_ 32 0#32)))
    (addi (broadcastInDim S8x1x1 ![0] bcast_S8_S8x1x1_0 (iotaInDim S8 32 0)) (broadcastInDim S8x1x1 ![] bcast_S_S8x1x1 (constantI S_ 32 8#32)))
    (broadcastInDim S8x1x1 ![0] bcast_S8_S8x1x1_0 (iotaInDim S8 32 0))

/-- The token of every pick, negative numbers counted from the end (there are none). -/
abbrev tokenWords (I : IVec S8x16x512 32) : IVec S8x16x512 32 :=
  select (cmpi .slt I (broadcastInDim S8x16x512 ![] bcast_S_S8x16x512 (constantI S_ 32 0#32)))
    (addi I (broadcastInDim S8x16x512 ![] bcast_S_S8x16x512 (constantI S_ 32 4096#32))) I

/-- Where each pick is added: its batch member and its token. -/
abbrev places (I : IVec S8x16x512 32) : IVec S8x16x512x2 32 :=
  concatenate S8x16x512x2 3
    [⟨S8x16x512x1, broadcastInDim S8x16x512x1 ![0, 1, 2] bcast_S8x16x512_S8x16x512x1_0_1_2
        (broadcastInDim S8x16x512 ![0, 1, 2] bcast_S8x1x1_S8x16x512_0_1_2 batchWords)⟩,
     ⟨S8x16x512x1, broadcastInDim S8x16x512x1 ![0, 1, 2] bcast_S8x16x512_S8x16x512x1_0_1_2 (tokenWords I)⟩]
    concatenates_S8x16x512x1_S8x16x512x1_S8x16x512x2_d3

/-- Each expert's output at each of its picks, scaled by the pick's probability. -/
abbrev scaled (Y : FVec Ideal S8x16x512x1024 .bf16) (W : FVec Ideal S8x16x512 .f32) : FVec Ideal S8x16x512x1024 .f32 :=
  mulf (extf .f32 Y bitsLt_bf16_f32)
    (broadcastInDim S8x16x512x1024 ![0, 1, 2, 3] bcast_S8x16x512x1_S8x16x512x1024_0_1_2_3
      (broadcastInDim S8x16x512x1 ![0, 1, 2] bcast_S8x16x512_S8x16x512x1_0_1_2 W))

/-- The scaled outputs added into an array of zeros, each at its own token. -/
abbrev moe (I : IVec S8x16x512 32) (W : FVec Ideal S8x16x512 .f32) (Y : FVec Ideal S8x16x512x1024 .bf16) : FVec Ideal S8x4096x1024 .f32 :=
  Host.scatterAdd scatter_S8x4096x1024_S8x16x512x2_S8x16x512x1024_3_01_01_3
    (broadcastInDim S8x4096x1024 ![] bcast_S_S8x4096x1024 (constant S_ .f32 0#32)) (places I) (scaled Y W)

/-- The residual stream with the gated mixture added. -/
abbrev mixed (M : FVec Ideal S8x4096x1024 .f32) (X : FVec Ideal S8x4096x1024 .f32) (G : FVec Ideal S8x1x1024 .f32) :
    FVec Ideal S8x4096x1024 .f32 :=
  addf X (mulf (broadcastInDim S8x4096x1024 ![0, 1, 2] bcast_S8x1x1024_S8x4096x1024_0_1_2 G) M)

/-- Root-mean-square normalisation of every token's row, scaled by the norm's weight. -/
abbrev normed (A : FVec Ideal S8x4096x1024 .f32) (N : FVec Ideal S1x1024 .f32) : FVec Ideal S8x4096x1024 .f32 :=
  mulf
    (mulf A
      (broadcastInDim S8x4096x1024 ![0, 1, 2] bcast_S8x4096x1_S8x4096x1024_0_1_2
        (Host.rsqrt
          (addf
            (Host.divf
              (broadcastInDim S8x4096x1 ![0, 1] bcast_S8x4096_S8x4096x1_0_1
                (Host.reduceAdd (mulf A A) (constant S_ .f32 0#32) reducesTo_S8x4096x1024_S8x4096_d2 h_S_))
              (broadcastInDim S8x4096x1 ![] bcast_S_S8x4096x1 (constant S_ .f32 1149239296#32)))
            (broadcastInDim S8x4096x1 ![] bcast_S_S8x4096x1 (constant S_ .f32 897988541#32))))))
    (broadcastInDim S8x4096x1024 ![0, 1, 2] bcast_S1x1x1024_S8x4096x1024_0_1_2
      (broadcastInDim S1x1x1024 ![1, 2] bcast_S1x1024_S1x1x1024_1_2 N))

/-- Every position a top-k names is a position of its axis. -/
theorem topK_position {s : Shape} {α : Type} (t : Shape) (d : Nat) (hd : d < s.rank) (gt : α → α → BitVec 1) (x : s.Idx → α)
    (h : s.Slices (fun _ => 0) t) (j : t.Idx) :
    ∃ n, n < s.size ⟨d, hd⟩ ∧ (Host.topK t d gt x h).2 j = BitVec.ofNat 32 n := by
  unfold Host.topK Host.sort2
  simp only [dif_pos hd]
  exact ⟨_, Fin.isLt _, rfl⟩

/-- The token of a pick is one of the 4096. -/
theorem pick_lt (P : FVec Ideal S8x4096x128 .f32) (j : S8x16x512.Idx) : ((picks P).2 j).toNat < 4096 := by
  obtain ⟨n, hn, e⟩ := topK_position (s := S8x16x4096) S8x16x512 2 (by decide) (FloatOps.cmpfTotal .gt) (scores P) sliceFits_S8x16x4096_S8x16x512 j
  have hn' : n < 4096 := hn
  rw [e, BitVec.toNat_ofNat]
  omega

/-- The first of a pick's two words is its batch member. -/
theorem place0 (I : IVec S8x16x512 32) (b : Fin 8) (e : Fin 16) (s : Fin 512) :
    (places I (ix4 b e s 0)).toInt = (b.val : Int) := by
  have h : places I (ix4 b e s 0) = BitVec.ofNat 32 b.val := by
    pointwise
    revert b
    decide
  rw [h]
  exact (by decide : ∀ b : Fin 8, (BitVec.ofNat 32 b.val).toInt = (b.val : Int)) b

/-- The second of a pick's two words is its token. -/
theorem place1 (I : IVec S8x16x512 32) (hI : ∀ j, (I j).toNat < 4096) (b : Fin 8) (e : Fin 16) (s : Fin 512) :
    (places I (ix4 b e s 1)).toInt = ((I (ix3 b e s)).toNat : Int) := by
  have h : places I (ix4 b e s 1) = I (ix3 b e s) := by
    have := hI (ix3 b e s)
    pointwise
    rw [WordCmp.cmpi_slt_zero, decide_eq_false (by omega)]
    rfl
  rw [h, BitVec.toInt_eq_toNat_of_lt]
  have := hI (ix3 b e s)
  omega

/-- How the picks' outputs are laid over the result: features along, batch member and token from the pick's words. -/
abbrev dims := scatter_S8x4096x1024_S8x16x512x2_S8x16x512x1024_3_01_01_3

/-- A pick starts at its first word on the batch axis. -/
theorem start0 (b : Fin 8) (e : Fin 16) (s : Fin 512) (d : Fin 1024) (idx : IVec S8x16x512x2 32) :
    dims.start (ix4 b e s d) idx 0 = (idx (ix4 b e s 0)).toInt := by
  unfold ScatterDims.start
  rw [dif_pos (by decide)]
  refine congrArg (fun i => (idx i).toInt) (funext fun a => ?_)
  fin_cases a <;> rfl

/-- A pick starts at its second word on the token axis. -/
theorem start1 (b : Fin 8) (e : Fin 16) (s : Fin 512) (d : Fin 1024) (idx : IVec S8x16x512x2 32) :
    dims.start (ix4 b e s d) idx 1 = (idx (ix4 b e s 1)).toInt := by
  unfold ScatterDims.start
  rw [dif_pos (by decide)]
  refine congrArg (fun i => (idx i).toInt) (funext fun a => ?_)
  fin_cases a <;> rfl

/-- A pick starts at zero on the feature axis. -/
theorem start2 (b : Fin 8) (e : Fin 16) (s : Fin 512) (d : Fin 1024) (idx : IVec S8x16x512x2 32) :
    dims.start (ix4 b e s d) idx 2 = 0 := by
  unfold ScatterDims.start
  rw [dif_neg (by decide)]

/-- A pick's window runs along the feature axis alone. -/
theorem window_eq (b : Fin 8) (e : Fin 16) (s : Fin 512) (d : Fin 1024) :
    dims.window (ix4 b e s d) 0 = 0 ∧ dims.window (ix4 b e s d) 1 = 0 ∧ dims.window (ix4 b e s d) 2 = d.val := by
  refine ⟨?_, ?_, ?_⟩ <;> unfold ScatterDims.window
  · rw [dif_neg (by decide)]
  · rw [dif_neg (by decide)]
  · rw [dif_pos (by decide)]; rfl

/-- A pick's scaled output lands exactly at its own batch member, token and feature. -/
theorem lands (I : IVec S8x16x512 32) (hI : ∀ j, (I j).toNat < 4096) (b b' : Fin 8) (e : Fin 16) (s : Fin 512) (d d' : Fin 1024) (k : Fin 4096) :
    dims.resultIdx? (ix4 b' e s d') (places I) = some (ix3 b k d) ↔ b' = b ∧ (I (ix3 b' e s)).toNat = k.val ∧ d' = d := by
  rw [Routing.resultIdx?_eq_some]
  obtain ⟨w0, w1, w2⟩ := window_eq b' e s d'
  have q0 : dims.start (ix4 b' e s d') (places I) 0 + (dims.window (ix4 b' e s d') 0 : Int) = b'.val := by
    rw [start0, place0, w0]; simp
  have q1 : dims.start (ix4 b' e s d') (places I) 1 + (dims.window (ix4 b' e s d') 1 : Int) = (I (ix3 b' e s)).toNat := by
    rw [start1, place1 I hI, w1]; simp
  have q2 : dims.start (ix4 b' e s d') (places I) 2 + (dims.window (ix4 b' e s d') 2 : Int) = d'.val := by
    rw [start2, w2]; simp
  constructor
  · intro h
    have h0 := (h 0).symm.trans q0
    have h1 := (h 1).symm.trans q1
    have h2 := (h 2).symm.trans q2
    exact ⟨Fin.ext (Int.ofNat.inj h0).symm, (Int.ofNat.inj h1).symm, Fin.ext (Int.ofNat.inj h2).symm⟩
  · rintro ⟨rfl, h1, rfl⟩ a
    fin_cases a
    · exact q0
    · exact q1.trans (congrArg Int.ofNat h1)
    · exact q2

/-- What one of an expert's picks adds to a token's feature: the scaled output if the pick is that token, and nothing otherwise. -/
def pick (I : IVec S8x16x512 32) (W : FVec Ideal S8x16x512 .f32) (Y : FVec Ideal S8x16x512x1024 .bf16)
    (b : Fin 8) (k : Fin 4096) (d : Fin 1024) (e : Fin 16) (s : Fin 512) : EReal :=
  if (I (ix3 b e s)).toNat = k.val then (Y (ix4 b e s d) : EReal) * W (ix3 b e s) else 0

/-- The mixture at one element: the sum over the experts and their picks, of the picks that are this token. -/
theorem moe_at (I : IVec S8x16x512 32) (hI : ∀ j, (I j).toNat < 4096) (W : FVec Ideal S8x16x512 .f32) (Y : FVec Ideal S8x16x512x1024 .bf16)
    (b : Fin 8) (k : Fin 4096) (d : Fin 1024) :
    moe I W Y (ix3 b k d)
      = ∑ e : Fin 16, ∑ s : Fin 512, pick I W Y b k d e s := by
  have hz : (broadcastInDim S8x4096x1024 ![] bcast_S_S8x4096x1024 (constant (F := Ideal) S_ .f32 0#32)) (ix3 b k d) = (0 : EReal) := by
    pointwise
  have hs : ∀ (b' : Fin 8) (e : Fin 16) (s : Fin 512) (d' : Fin 1024), scaled Y W (ix4 b' e s d') = (Y (ix4 b' e s d') : EReal) * W (ix3 b' e s) := by
    intro b' e s d'
    pointwise
  show (_ : EReal) + ∑ j ∈ Finset.univ.filter (fun j => dims.resultIdx? j (places I) = some (ix3 b k d)), scaled Y W j = _
  rw [hz, zero_add, Finset.sum_filter, sum_idx4]
  simp only [lands I hI, hs]
  rw [Finset.sum_eq_single b (fun b' _ hb => by simp [hb]) (by simp)]
  refine Finset.sum_congr rfl fun e _ => Finset.sum_congr rfl fun s _ => ?_
  rw [Finset.sum_eq_single d (fun d' _ hd => by simp [hd]) (by simp)]
  simp [pick]

/-- The normalised array at one element. -/
theorem normed_at (A : FVec Ideal S8x4096x1024 .f32) (N : FVec Ideal S1x1024 .f32) (i : S8x4096x1024.Idx) :
    normed A N i
      = (A i * Ideal.rsqrt (Ideal.div (∑ x, A (ix3 (i 0) (i 1) x) * A (ix3 (i 0) (i 1) x)) (Ideal.ofBits FTy.f32 1149239296#32)
          + Ideal.ofBits FTy.f32 897988541#32) * N (ix2 0 (i 2)) : EReal) := by
  pointwise

/-- The residual stream with the gated mixture added, at one element. -/
theorem mixed_at (M X : FVec Ideal S8x4096x1024 .f32) (G : FVec Ideal S8x1x1024 .f32) (b : Fin 8) (k : Fin 4096) (d : Fin 1024) :
    mixed M X G (ix3 b k d) = (X (ix3 b k d) + G (ix3 b 0 d) * M (ix3 b k d) : EReal) := by
  pointwise

end Cert.CombineRef

end
-- ==== Proof.CombineReads.lean ====
module

public import proofs.«01_k».proof.Proof.CombineHot
public import proofs.«01_k».proof.Proof.CombineRef

@[expose] public section

set_option maxRecDepth 16384

noncomputable section

namespace Cert.Kernel2Ideal.Combine

open Idealize.ShloMosaic Idealize.ShloMosaic.TcCoe Idealize.ShloMosaic.Tactic
open Idealize.SL.Sem
open Idealize.ShloMosaic.Pipeline (Dat Cfg Window)
open Cert.Kernel2Ideal Cert.Kernel2Ideal.Gen Cert.Kernel2Ideal.Hot
open Cert.CombineRef (picks pick moe mixed normed)

variable (m : (ℓ : Loc nD τ sig) → Buf (Elt Ideal) ℓ)

/-- The blocks the windows stage at point `n` of the grid, `n = 8 * batch + 2 * block of tokens + half of the experts`. -/
theorem idx : ∀ t : Fin cfg0.N,
    win0_0.index t = ![t.val / 8, t.val % 2, 0, 0]
    ∧ win0_1.index t = ![t.val / 8, t.val % 2, 0, 0]
    ∧ win0_2.index t = ![t.val / 8, t.val % 2, 0, 0]
    ∧ win0_3.index t = ![t.val / 8, t.val % 8 / 2, 0]
    ∧ win0_4.index t = ![t.val / 8, 0, 0]
    ∧ win0_5.index t = ![0, 0]
    ∧ win0_6.index t = ![t.val / 8, t.val % 8 / 2, 0] :=
  (by decide +kernel : ∀ t : Fin grid0.N, _)

/-- The point's second grid coordinate: the block of tokens. -/
theorem coord : ∀ t : Fin cfg0.N, (grid0.coords t 1).val = t.val % 8 / 2 :=
  (by decide +kernel : ∀ t : Fin grid0.N, _)

/-- Which points write their block back: those of the second half of the experts. -/
theorem odd_of_flush : ∀ t : Fin cfg0.N, (cfg0.win 6).flush t = true → t.val % 2 = 1 :=
  (by decide +kernel : ∀ t : Fin grid0.N, _)

/-- The picks' tokens as the kernel is given them. -/
theorem tokens_in (c : Dev nD) (b : Fin 8) (e : Fin 16) (s : Fin 512) :
    V m c main_v2 (ix4 b e 0 s) = (picks (m (c.tc.loc main_arg0))).2 (ix3 b e s) := by
  entry_read
  pointwise

/-- The picks' probabilities as the kernel is given them. -/
theorem weights_in (c : Dev nD) (b : Fin 8) (e : Fin 16) (s : Fin 512) :
    V m c main_v3 (ix4 b e 0 s) = (picks (m (c.tc.loc main_arg0))).1 (ix3 b e s) := by
  entry_read
  pointwise

section Reads

variable (c : Dev nD) (t : Fin cfg0.N)

/-- A point's block of the picks' tokens. -/
theorem tokens_at (e : Fin 8) (s : Fin 512) : iblk m c 0 t (ix4 0 e 0 s)
    = V m c main_v2 (ix4 ⟨t.val / 8, by have := lt_of_lt_of_eq t.isLt N_0; omega⟩ ⟨t.val % 2 * 8 + e.val, by omega⟩ 0 s) := by
  have e := idx t
  blk_point [iblk, e]

/-- A point's block of the picks' probabilities. -/
theorem weights_at (e : Fin 8) (s : Fin 512) : iblk m c 1 t (ix4 0 e 0 s)
    = V m c main_v3 (ix4 ⟨t.val / 8, by have := lt_of_lt_of_eq t.isLt N_0; omega⟩ ⟨t.val % 2 * 8 + e.val, by omega⟩ 0 s) := by
  have e := idx t
  blk_point [iblk, e]

/-- A point's block of the experts' outputs. -/
theorem outputs_at (e : Fin 8) (s : Fin 512) (d : Fin 1024) : iblk m c 2 t (ix4 0 e s d)
    = m (c.tc.loc main_arg1) (ix4 ⟨t.val / 8, by have := lt_of_lt_of_eq t.isLt N_0; omega⟩ ⟨t.val % 2 * 8 + e.val, by omega⟩ s d) := by
  have e := idx t
  blk_point [iblk, V, e]

/-- A point's block of the residual stream. -/
theorem stream_at (r d : Fin 1024) : iblk m c 3 t (ix3 0 r d)
    = m (c.tc.loc main_arg2) (ix3 ⟨t.val / 8, by have := lt_of_lt_of_eq t.isLt N_0; omega⟩ ⟨t.val % 8 / 2 * 1024 + r.val, by omega⟩ d) := by
  have e := idx t
  blk_point [iblk, V, e]

/-- A point's block of the gate. -/
theorem gate_at (d : Fin 1024) : iblk m c 4 t (ix3 0 0 d)
    = m (c.tc.loc main_arg3) (ix3 ⟨t.val / 8, by have := lt_of_lt_of_eq t.isLt N_0; omega⟩ 0 d) := by
  have e := idx t
  blk_point [iblk, V, e]

/-- The norm's weight, whole at every point. -/
theorem weight_at (d : Fin 1024) : iblk m c 5 t (ix2 0 d) = m (c.tc.loc main_arg4) (ix2 0 d) := by
  have e := idx t
  blk_point [iblk, V, e]

end Reads

/-- What one point adds to an element of the scratch: its eight experts' part of the mixture. -/
theorem part_eq (c : Dev nD) (t : Fin cfg0.N) (b : Fin 8) (k : Fin 4096) (hb : t.val / 8 = b.val)
    (r d : Fin 1024) (hk : t.val % 8 / 2 * 1024 + r.val = k.val) (e : Fin 8) (s : Fin 512) (E : Fin 16) (hE : t.val % 2 * 8 + e.val = E.val) :
    ((hot (grid0.coords t) (iblk m c 0 t) (iblk m c 1 t) (ix2 r ⟨e.val * 512 + s.val, by omega⟩) : EReal) * iblk m c 2 t (ix4 0 e s d))
      = pick (picks (m (c.tc.loc main_arg0))).2 (picks (m (c.tc.loc main_arg0))).1 (m (c.tc.loc main_arg1)) b k d E s := by
  obtain ⟨b, hb'⟩ := b
  obtain ⟨E, hE'⟩ := E
  simp only at hb hE
  subst hb hE
  rw [hot_at, tokens_at, weights_at, outputs_at, tokens_in, weights_in, coord, hk, pick]
  split
  · exact mul_comm _ _
  · exact zero_mul _

end Cert.Kernel2Ideal.Combine

end
-- ==== Proof.CombineValue.lean ====
module

public import proofs.«01_k».proof.Proof.CombineReads
public import Idealize.ShloMosaic.Lib.Pipeline.ReadBack

@[expose] public section

set_option maxRecDepth 16384

noncomputable section

namespace Cert.Kernel2Ideal.Combine

open Idealize.ShloMosaic Idealize.ShloMosaic.TcCoe Idealize.ShloMosaic.Tactic
open Idealize.SL.Sem
open Idealize.ShloMosaic.Pipeline (Dat Cfg Window)
open Cert.Kernel2Ideal Cert.Kernel2Ideal.Gen Cert.Kernel2Ideal.Hot
open Cert.CombineRef (picks moe mixed normed)

variable (m : (ℓ : Loc nD τ sig) → Buf (Elt Ideal) ℓ)

/-- The scratch after an odd point is the mixture at the point's tokens. -/
theorem mixture (c : Dev nD) (t t' : Fin cfg0.N) (h1 : t.val % 2 = 1) (h' : t'.val = t.val - 1) (b : Fin 8) (hb : t.val / 8 = b.val)
    (r d : Fin 1024) (k : Fin 4096) (hk : t.val % 8 / 2 * 1024 + r.val = k.val) :
    (k0_pay1 (hot (grid0.coords t) (iblk m c 0 t) (iblk m c 1 t))
        (k0_pay1 (hot (grid0.coords t') (iblk m c 0 t') (iblk m c 1 t')) (k0_pay3 (F := Ideal)) (iblk m c 2 t')) (iblk m c 2 t) (ix2 r d) : EReal)
      = moe (picks (m (c.tc.loc main_arg0))).2 (picks (m (c.tc.loc main_arg0))).1 (m (c.tc.loc main_arg1)) (ix3 b k d) := by
  have hm := (Cert.CombineRef.moe_at _ (Cert.CombineRef.pick_lt (m (c.tc.loc main_arg0))) (picks (m (c.tc.loc main_arg0))).1
    (m (c.tc.loc main_arg1)) b k d).trans (Fin.sum_univ_two_halves (N := 16) 8 8 rfl _)
  refine Eq.trans ?_ hm.symm
  have h0 : ∀ (e : Fin 8) (s : Fin 512), _ := fun e s => part_eq m c t' b k (by omega) r d (by omega) e s ⟨e.val, by omega⟩ (by simp only; omega)
  have h1 : ∀ (e : Fin 8) (s : Fin 512), _ := fun e s => part_eq m c t b k hb r d hk e s ⟨8 + e.val, by omega⟩ (by simp only; omega)
  rw [acc_at, acc_at, zero_at, zero_add]
  simp only [h0, h1]

/-- The combining call ends with the reference's array. -/
theorem final (c : Dev nD) :
    (dats m 0 c).arrAt 6 (cfgs 0).N
      = normed (mixed (moe (picks (m (c.tc.loc main_arg0))).2 (picks (m (c.tc.loc main_arg0))).1 (m (c.tc.loc main_arg1)))
          (m (c.tc.loc main_arg2)) (m (c.tc.loc main_arg3))) (m (c.tc.loc main_arg4)) := by
  refine (dats m 0 c).arrAt_eq_of_covers 6 _ (by decide +kernel) fun t hf y => ?_
  blk_simp
  have h1 : t.val % 2 = 1 := odd_of_flush t hf
  have ht : t.val < 64 := lt_of_lt_of_eq t.isLt N_0
  obtain ⟨t', h'⟩ : ∃ t' : Fin cfg0.N, t'.val = t.val - 1 := ⟨⟨t.val - 1, lt_of_le_of_lt (Nat.sub_le _ _) t.isLt⟩, rfl⟩
  have hA : (outsAt0 m c (t.val - 1) (Nat.lt_of_le_of_lt (Nat.sub_le _ _) t.isLt)) = outsAt0 m c t'.val t'.isLt := by
    congr 1
    exact h'.symm
  rw [after0_6, outsAt0_B m c t (by omega) h1, hA, outsAt0_A m c t' (by omega) (by omega)]
  frame_out
  rw [read_unread_whole]
  obtain ⟨r, d, rfl⟩ : ∃ r d, y = ix3 0 r d := ⟨y 1, y 2, by idx_ext⟩
  have hi : ((View.whole main_v4).slice (win0_6.rect t)).emb (ix3 0 r d) = ix3 ⟨t.val / 8, by omega⟩ ⟨t.val % 8 / 2 * 1024 + r.val, by omega⟩ d := by
    have e := idx t
    blk_ext [e]
  rw [hi, Cert.CombineRef.normed_at]
  refine (norm_at _ _ _ _ r d (fun x => mixed (moe (picks (m (c.tc.loc main_arg0))).2 (picks (m (c.tc.loc main_arg0))).1 (m (c.tc.loc main_arg1)))
          (m (c.tc.loc main_arg2)) (m (c.tc.loc main_arg3)) (ix3 ⟨t.val / 8, by omega⟩ ⟨t.val % 8 / 2 * 1024 + r.val, by omega⟩ x)) fun x => ?_).trans ?_
  · rw [Cert.CombineRef.mixed_at, ← mixture m c t t' h1 h' ⟨t.val / 8, by omega⟩ rfl r x ⟨t.val % 8 / 2 * 1024 + r.val, by omega⟩ rfl,
      stream_at, gate_at]
  · rw [weight_at]
    rfl

end Cert.Kernel2Ideal.Combine

end
-- ==== Proof.CombineClaim.lean ====
module

public import proofs.«01_k».proof.Defs
public import proofs.«01_k».proof.Proof.CombineValue
public import Idealize.ShloMosaic.Lib.Claim
public import Idealize.ShloMosaic.Adequacy
public import Idealize.ShloMosaic.Init

@[expose] public section

set_option maxRecDepth 16384

noncomputable section

namespace Cert.CombineClaim

open Idealize.ShloMosaic Idealize.SL.Sem

set_option maxHeartbeats 1600000 in
/-- The combining call and its reference end with the same array. -/
theorem same : Cert.algebraic_Kernel2Ideal_Reference2Ideal := by
  pair_intro
  · run_from Cert.Kernel2Ideal.Gen.run_main m g
  · hlo_run
    exact (Cert.Kernel2Ideal.Combine.final m c).symm

end Cert.CombineClaim

end
-- ==== Proof.OutprojRef.lean ====
module

public import proofs.«01_k».proof.Proof.Gen.Reference3Ideal
public import Idealize.ShloMosaic.Lib.Pipeline.ValueKit
public import Idealize.ShloMosaic.Lib.Pointwise

@[expose] public section

set_option maxRecDepth 16384

noncomputable section

namespace Cert.OutprojRef

open Idealize.ShloMosaic Idealize.ShloMosaic.TcCoe Idealize.ShloMosaic.Tactic
open Cert.Reference3Ideal Cert.Reference3Ideal.Gen

/-- Rows of the two mixers' outputs side by side. -/
abbrev beside {F : FTy → Type} [FloatOps F] : (⟨S8x4096x512, .bf16⟩ : BufTy).Contents (Elt F)
    → (⟨S8x4096x1536, .bf16⟩ : BufTy).Contents (Elt F) → (⟨S8x4096x2048, .bf16⟩ : BufTy).Contents (Elt F) :=
  fun U Y => concatenate S8x4096x2048 2 [⟨S8x4096x512, U⟩, ⟨S8x4096x1536, Y⟩] concatenates_S8x4096x512_S8x4096x1536_S8x4096x2048_d2

/-- The two mixers' outputs side by side. -/
abbrev joined (U : FVec Ideal S8x4096x512 .bf16) (Y : FVec Ideal S8x4096x1536 .bf16) : FVec Ideal S8x4096x2048 .f32 :=
  extf .f32 (beside (F := Ideal) U Y) bitsLt_bf16_f32

/-- The residual stream with the gated projection of the mixers' outputs added. -/
abbrev stream (U : FVec Ideal S8x4096x512 .bf16) (Y : FVec Ideal S8x4096x1536 .bf16) (X : FVec Ideal S8x4096x1024 .f32)
    (G : FVec Ideal S8x1x1024 .f32) (W : FVec Ideal S2048x1024 .f32) : FVec Ideal S8x4096x1024 .f32 :=
  addf X
    (mulf (broadcastInDim S8x4096x1024 ![0, 1, 2] bcast_S8x1x1024_S8x4096x1024_0_1_2 G)
      (Host.dotGeneral dot_S8x4096x2048_S2048x1024_S8x4096x1024_2_0_01_1_n_n none (joined U Y) W))

/-- Root-mean-square normalisation of every token's row, then the modulation by scale and shift. -/
abbrev modulated (A : FVec Ideal S8x4096x1024 .f32) (H C : FVec Ideal S8x1x1024 .f32) (N : FVec Ideal S1x1024 .f32) :
    FVec Ideal S8x4096x1024 .f32 :=
  addf
    (mulf
      (mulf
        (mulf A
          (broadcastInDim S8x4096x1024 ![0, 1, 2] bcast_S8x4096x1_S8x4096x1024_0_1_2
            (Host.rsqrt
              (addf
                (Host.divf
                  (broadcastInDim S8x4096x1 ![0, 1] bcast_S8x4096_S8x4096x1_0_1
                    (Host.reduceAdd (mulf A A) (constant S_ .f32 0#32) reducesTo_S8x4096x1024_S8x4096_d2 h_S_))
                  (broadcastInDim S8x4096x1 ![] bcast_S_S8x4096x1 (constant S_ .f32 1149239296#32)))
                (broadcastInDim S8x4096x1 ![] bcast_S_S8x4096x1 (constant S_ .f32 897988541#32))))))
        (broadcastInDim S8x4096x1024 ![0, 1, 2] bcast_S1x1x1024_S8x4096x1024_0_1_2
          (broadcastInDim S1x1x1024 ![1, 2] bcast_S1x1024_S1x1x1024_1_2 N)))
      (broadcastInDim S8x4096x1024 ![0, 1, 2] bcast_S8x1x1024_S8x4096x1024_0_1_2
        (addf (broadcastInDim S8x1x1024 ![] bcast_S_S8x1x1024 (constant S_ .f32 1065353216#32)) C)))
    (broadcastInDim S8x4096x1024 ![0, 1, 2] bcast_S8x1x1024_S8x4096x1024_0_1_2 H)

/-- The modulated rows rounded to the expert layer's format. -/
abbrev rounded (A : FVec Ideal S8x4096x1024 .f32) : FVec Ideal S8x4096x1024 .bf16 := truncf .bf16 A bitsLt_bf16_f32

/-- The router's logits. -/
abbrev logits (A : FVec Ideal S8x4096x1024 .f32) (R : FVec Ideal S1024x16 .f32) : FVec Ideal S8x4096x16 .f32 :=
  Host.dotGeneral dot_S8x4096x1024_S1024x16_S8x4096x16_2_0_01_1_n_n none A R

/-- The greatest of every row of logits. -/
abbrev greatest {F : FTy → Type} [FloatOps F] : (⟨S8x4096x16, .f32⟩ : BufTy).Contents (Elt F) → (⟨S_, .f32⟩ : BufTy).Contents (Elt F)
    → (⟨S8x4096, .f32⟩ : BufTy).Contents (Elt F) :=
  fun L v => Host.reduce FloatOps.maximumf L v reducesTo_S8x4096x16_S8x4096_d2 h_S_

/-- Rows of sixteen with further lanes after them. -/
abbrev widened {F : FTy → Type} [FloatOps F] : (⟨S8x4096x16, .f32⟩ : BufTy).Contents (Elt F) → (⟨S8x4096x112, .f32⟩ : BufTy).Contents (Elt F)
    → (⟨S8x4096x128, .f32⟩ : BufTy).Contents (Elt F) :=
  fun A B => concatenate S8x4096x128 2 [⟨S8x4096x16, A⟩, ⟨S8x4096x112, B⟩] concatenates_S8x4096x16_S8x4096x112_S8x4096x128_d2

/-- The logits' exponentials, each row's greatest subtracted first. -/
abbrev weights (L : FVec Ideal S8x4096x16 .f32) : FVec Ideal S8x4096x16 .f32 :=
  Host.exp
    (subf L
      (broadcastInDim S8x4096x16 ![0, 1, 2] bcast_S8x4096x1_S8x4096x16_0_1_2
        (broadcastInDim S8x4096x1 ![0, 1] bcast_S8x4096_S8x4096x1_0_1
          (greatest (F := Ideal) L (constant (F := Ideal) S_ .f32 4286578688#32)))))

/-- The softmax over the sixteen experts; the weights are followed by zeros up to the width the kernel writes. -/
abbrev probabilities (L : FVec Ideal S8x4096x16 .f32) : FVec Ideal S8x4096x128 .f32 :=
  Host.divf
    (widened (F := Ideal) (weights L) (broadcastInDim S8x4096x112 ![] bcast_S_S8x4096x112 (constant (F := Ideal) S_ .f32 0#32)))
    (broadcastInDim S8x4096x128 ![0, 1, 2] bcast_S8x4096x1_S8x4096x128_0_1_2
      (broadcastInDim S8x4096x1 ![0, 1] bcast_S8x4096_S8x4096x1_0_1
        (Host.reduceAdd (weights L) (constant S_ .f32 0#32) reducesTo_S8x4096x16_S8x4096_d2 h_S_)))

/-- One element of the stream: the projection's sum in its two parts. -/
theorem stream_at (U : FVec Ideal S8x4096x512 .bf16) (Y : FVec Ideal S8x4096x1536 .bf16) (X : FVec Ideal S8x4096x1024 .f32)
    (G : FVec Ideal S8x1x1024 .f32) (W : FVec Ideal S2048x1024 .f32) (b : Fin 8) (k : Fin 4096) (d : Fin 1024) :
    stream U Y X G W (ix3 b k d)
      = (X (ix3 b k d) + G (ix3 b 0 d) * ((∑ j : Fin 512, U (ix3 b k j) * W (ix2 ⟨j.val, by omega⟩ d))
          + ∑ j : Fin 1536, Y (ix3 b k j) * W (ix2 ⟨512 + j.val, by omega⟩ d)) : EReal) := by
  pointwise

/-- One element of the modulated rows, the stream's row being `K`. -/
theorem modulated_at (A : FVec Ideal S8x4096x1024 .f32) (H C : FVec Ideal S8x1x1024 .f32) (N : FVec Ideal S1x1024 .f32)
    (b : Fin 8) (k : Fin 4096) (d : Fin 1024) (K : Fin 1024 → EReal) (hK : ∀ x, A (ix3 b k x) = K x) :
    modulated A H C N (ix3 b k d)
      = K d * Ideal.rsqrt (Ideal.div (∑ x, K x * K x) (Ideal.ofBits FTy.f32 1149239296#32) + Ideal.ofBits FTy.f32 897988541#32)
          * N (ix2 0 d) * (Ideal.ofBits FTy.f32 1065353216#32 + C (ix3 b 0 d)) + H (ix3 b 0 d) := by
  simp only [← hK]
  pointwise

/-- One logit. -/
theorem logits_at (A : FVec Ideal S8x4096x1024 .f32) (R : FVec Ideal S1024x16 .f32) (b : Fin 8) (k : Fin 4096) (e : Fin 16) :
    logits A R (ix3 b k e) = (∑ x : Fin 1024, A (ix3 b k x) * R (ix2 x e) : EReal) := by
  pointwise

/-- The greatest of a row of logits. -/
def top (L : Fin 16 → EReal) : EReal := Finset.fold max (Ideal.ofBits FTy.f32 4286578688#32) L Finset.univ

/-- One probability, `L` the row of logits: the lanes past the experts hold nothing over the same sum. -/
theorem probabilities_at (G : FVec Ideal S8x4096x16 .f32) (b : Fin 8) (k : Fin 4096) (e : Fin 128) (L : Fin 16 → EReal)
    (hL : ∀ x, G (ix3 b k x) = L x) :
    probabilities G (ix3 b k e)
      = Ideal.div (if h : e.val < 16 then Ideal.exp (L ⟨e.val, h⟩ - top L) else 0) (∑ x, Ideal.exp (L x - top L)) := by
  simp only [← hL, top]
  pointwise

end Cert.OutprojRef

end
-- ==== Proof.OutprojBody.lean ====
module

public import proofs.«01_k».proof.Proof.Gen.Kernel3Ideal.Frame
public import proofs.«01_k».proof.Proof.OutprojRef

@[expose] public section

set_option maxRecDepth 16384

noncomputable section

namespace Cert.Kernel3Ideal.Body

open Idealize.ShloMosaic Idealize.ShloMosaic.TcCoe Idealize.ShloMosaic.Tactic
open Cert.Kernel3Ideal Cert.Kernel3Ideal.Gen
open Cert.OutprojRef (top)

/-- One element of the new stream. -/
theorem sum_at (U : Vec Ideal S1x1024x512 .bf16) (W0 : Vec Ideal S512x1024 .bf16) (Y : Vec Ideal S1x1024x1536 .bf16)
    (W1 : Vec Ideal S1536x1024 .bf16) (X : Vec Ideal S1x1024x1024 .f32) (G : Vec Ideal S1x1x1024 .f32) (r d : Fin 1024) :
    k0_pay1 U W0 Y W1 X G (ix2 r d)
      = (X (ix3 0 r d) + G (ix3 0 0 d) * ((∑ j : Fin 512, U (ix3 0 r j) * W0 (ix2 j d))
          + ∑ j : Fin 1536, Y (ix3 0 r j) * W1 (ix2 j d)) : EReal) := by
  pointwise [k0_pay1]

/-- One element of the modulated row, the stream's row being `K`. -/
theorem modulated_at (A B : FVec Ideal S1024x1024 .f32) (N : Vec Ideal S1x1024 .f32) (H C : Vec Ideal S1x1x1024 .f32)
    (r d : Fin 1024) (K : Fin 1024 → EReal) (hA : ∀ x, A (ix2 r x) = K x) (hB : ∀ x, B (ix2 r x) = K x * K x) :
    k0_pay6 A N (k0_pay3 H) (k0_pay4 C) B (ix2 r d)
      = K d * Ideal.rsqrt (Ideal.div (∑ x, K x * K x) (Ideal.ofBits FTy.f32 1149239296#32) + Ideal.ofBits FTy.f32 897988541#32)
          * N (ix2 0 d) * (Ideal.ofBits FTy.f32 1065353216#32 + C (ix3 0 0 d)) + H (ix3 0 0 d) := by
  pointwise [k0_pay6, k0_pay3, k0_pay4]
  simp only [hA, hB]

/-- What is written of the modulated rows. -/
theorem rounded_at (A B : FVec Ideal S1024x1024 .f32) (N H C : FVec Ideal S1x1024 .f32) (r d : Fin 1024) :
    (k0_pay7 A N H C B (ix3 0 r d) : EReal) = k0_pay6 A N H C B (ix2 r d) := by
  pointwise [k0_pay7]

/-- The word the lanes past the experts are filled with is minus infinity. -/
theorem filler : Ideal.ofBits FTy.f32 4286578688#32 = ⊥ := by
  simp [Ideal.ofBits, Ideal.ieee]

/-- A lane's number is below sixteen exactly when the kernel's comparison says so. -/
theorem lane_select (e : Fin 128) (x y : EReal) :
    Scalar.select (IntOp.cmpi CmpIPredicate.slt (BitVec.ofNat 32 e.val) 16#32) x y = if e.val < 16 then x else y := by
  rw [show (16#32 : BitVec 32) = BitVec.ofNat 32 16 from rfl, WordCmp.cmpi_slt_ofNat (by omega) (by omega), WordCmp.select_ofBool]
  simp only [decide_eq_true_eq]

/-- A row of logits followed by minus infinities has the softmax of the row, followed by nothing over the same sum. -/
theorem softmax_extended (G : Fin 128 → EReal) (L : Fin 16 → EReal)
    (hG : ∀ e : Fin 128, G e = if h : e.val < 16 then L ⟨e.val, h⟩ else Ideal.ofBits FTy.f32 4286578688#32) (e : Fin 128) :
    Ideal.div (Ideal.exp (G e - Finset.fold max (Ideal.ofBits FTy.f32 4286578688#32) G Finset.univ))
        (∑ x, Ideal.exp (G x - Finset.fold max (Ideal.ofBits FTy.f32 4286578688#32) G Finset.univ))
      = Ideal.div (if h : e.val < 16 then Ideal.exp (L ⟨e.val, h⟩ - top L) else 0) (∑ x, Ideal.exp (L x - top L)) := by
  have ht : Finset.fold max (Ideal.ofBits FTy.f32 4286578688#32) G Finset.univ = top L := by
    refine le_antisymm ?_ ?_
    · refine (Finset.fold_max_le _).mpr ⟨(Finset.le_fold_max _).mpr (.inl le_rfl), fun x _ => ?_⟩
      rw [hG]
      split
      · exact (Finset.le_fold_max _).mpr (.inr ⟨_, Finset.mem_univ _, le_rfl⟩)
      · exact (Finset.le_fold_max _).mpr (.inl le_rfl)
    · refine (Finset.fold_max_le _).mpr ⟨(Finset.le_fold_max _).mpr (.inl le_rfl), fun x _ => ?_⟩
      refine (Finset.le_fold_max _).mpr (.inr ⟨⟨x.val, by omega⟩, Finset.mem_univ _, ?_⟩)
      rw [hG, dif_pos x.isLt]
  have he : ∀ x : Fin 128, Ideal.exp (G x - top L) = if h : x.val < 16 then Ideal.exp (L ⟨x.val, h⟩ - top L) else 0 := by
    intro x
    rw [hG]
    split
    · rfl
    · rw [filler, sub_eq_add_neg, EReal.bot_add, Ideal.exp_bot]
  rw [ht, he]
  congr 1
  rw [Fin.sum_univ_two_halves (N := 128) 16 112 rfl]
  simp only [he]
  have h0 : ∀ x : Fin 112, ¬ (16 + x.val < 16) := fun x => by omega
  simp only [h0, dite_false, Finset.sum_const_zero, add_zero]
  exact Finset.sum_congr rfl fun x _ => dif_pos x.isLt

/-- What is written of the probabilities, `L` the row of logits. -/
theorem probability_at (A B : FVec Ideal S1024x1024 .f32) (N H C : FVec Ideal S1x1024 .f32) (R : Vec Ideal S1024x128 .f32)
    (r : Fin 1024) (e : Fin 128) (L : Fin 16 → EReal)
    (hL : ∀ e : Fin 16, (∑ x : Fin 1024, (k0_pay6 A N H C B (ix2 r x) : EReal) * R (ix2 x ⟨e.val, by omega⟩)) = L e) :
    k0_pay8 A N H C B R (ix3 0 r e)
      = Ideal.div (if h : e.val < 16 then Ideal.exp (L ⟨e.val, h⟩ - top L) else 0) (∑ x, Ideal.exp (L x - top L)) := by
  obtain ⟨G, hG⟩ : ∃ G : Fin 128 → EReal, G = fun e => if e.val < 16 then
      (∑ x : Fin 1024, (k0_pay6 A N H C B (ix2 r x) : EReal) * R (ix2 x e)) else Ideal.ofBits FTy.f32 4286578688#32 := ⟨_, rfl⟩
  refine Eq.trans ?_ (softmax_extended G L (fun e => ?_) e)
  · pointwise [k0_pay8]
    simp only [lane_select, hG]
  · simp only [hG]
    by_cases h : e.val < 16
    · rw [if_pos h, dif_pos h, ← hL ⟨e.val, h⟩]
    · rw [if_neg h, dif_neg h]

end Cert.Kernel3Ideal.Body

end
-- ==== Proof.OutprojValue.lean ====
module

public import proofs.«01_k».proof.Proof.OutprojBody

@[expose] public section

set_option maxRecDepth 16384

noncomputable section

namespace Cert.Kernel3Ideal.Outproj

open Idealize.ShloMosaic Idealize.ShloMosaic.TcCoe Idealize.ShloMosaic.Tactic
open Idealize.SL.Sem
open Idealize.ShloMosaic.Pipeline (Dat Cfg Window)
open Cert.Kernel3Ideal Cert.Kernel3Ideal.Gen
open Cert.OutprojRef (stream modulated rounded logits probabilities)

variable (m : (ℓ : Loc nD τ sig) → Buf (Elt Ideal) ℓ)

section Whole

variable (x0 : Vec Ideal S1x1024x512 .bf16) (x1 : Vec Ideal S1x1024x1536 .bf16) (x2 : Vec Ideal S1x1024x1024 .f32)
  (x3 x4 x5 : Vec Ideal S1x1x1024 .f32) (x6 : Vec Ideal S1x1024 .f32) (x7 : Vec Ideal S2048x1024 .bf16) (x8 : Vec Ideal S1024x128 .f32)

theorem whole_0 : View.ld x0 r0_0 = x0 := View.ld_unit_zero (by funext a; fin_cases a <;> rfl) _ _
theorem whole_1 : View.ld x1 r0_2 = x1 := View.ld_unit_zero (by funext a; fin_cases a <;> rfl) _ _
theorem whole_2 : View.ld x2 r0_4 = x2 := View.ld_unit_zero (by funext a; fin_cases a <;> rfl) _ _
theorem whole_3 : View.ld x3 r0_5 = x3 := View.ld_unit_zero (by funext a; fin_cases a <;> rfl) _ _

/-- The named values of the body, their loads of whole blocks being the blocks: the stream's rows. -/
theorem stream_eq : k0_pay9 x0 x1 x2 x3 x4 x5 x6 x7 x8 = k0_pay1 x0 (View.ld x7 r0_1) x1 (View.ld x7 r0_3) x2 x3 := by
  rw [k0_pay9, whole_0, whole_1, whole_2, whole_3]

/-- Their squares. -/
theorem squares_eq : k0_pay12 x0 x1 x2 x3 x4 x5 x6 x7 x8 = k0_pay5 x0 (View.ld x7 r0_1) x1 (View.ld x7 r0_3) x2 x3 := by
  rw [k0_pay12, whole_0, whole_1, whole_2, whole_3]

/-- The shift. -/
theorem shift_eq : k0_pay10 x0 x1 x2 x3 x4 x5 x6 x7 x8 = k0_pay3 x4 := by
  rw [k0_pay10, whole_3]

/-- The scale. -/
theorem scale_eq : k0_pay11 x0 x1 x2 x3 x4 x5 x6 x7 x8 = k0_pay4 x5 := by
  rw [k0_pay11, whole_3]

end Whole

/-- The blocks the windows stage at point `n` of the grid, `n = 4 * batch + block of rows`. -/
theorem idx : ∀ t : Fin cfg0.N,
    win0_0.index t = ![t.val / 4, t.val % 4, 0]
    ∧ win0_1.index t = ![t.val / 4, t.val % 4, 0]
    ∧ win0_2.index t = ![t.val / 4, t.val % 4, 0]
    ∧ win0_3.index t = ![t.val / 4, 0, 0]
    ∧ win0_4.index t = ![t.val / 4, 0, 0]
    ∧ win0_5.index t = ![t.val / 4, 0, 0]
    ∧ win0_6.index t = ![0, 0]
    ∧ win0_7.index t = ![0, 0]
    ∧ win0_8.index t = ![0, 0]
    ∧ win0_9.index t = ![t.val / 4, t.val % 4, 0]
    ∧ win0_10.index t = ![t.val / 4, t.val % 4, 0]
    ∧ win0_11.index t = ![t.val / 4, t.val % 4, 0] :=
  (by decide +kernel : ∀ t : Fin grid0.N, _)

/-- The projection's weight as the kernel is given it. -/
theorem weight_in (c : Dev nD) (j : Fin 2048) (d : Fin 1024) :
    (V m c main_v1 (ix2 j d) : EReal) = m (c.tc.loc main_arg7) (ix2 j d) := by
  simp only [V, List.flatten_cons, List.flatten_nil, List.append_nil, List.cons_append, List.nil_append]
  entry_read
  pointwise

/-- A weight with lanes appended, at one of its own lanes. -/
theorem padded_at (W : FVec Ideal S1024x16 .f32) (z : FVec Ideal S_ .f32) (x : Fin 1024) (e : Fin 16) :
    (pad S1024x128 ![0, 0] ![0, 112] ![0, 0] W z pads_S1024x16_S1024x128_000_01120 h_S_ (ix2 x ⟨e.val, by omega⟩) : EReal)
      = W (ix2 x e) := by
  pointwise

/-- The router's weight as the kernel is given it, at an expert's lane. -/
theorem router_in (c : Dev nD) (x : Fin 1024) (e : Fin 16) :
    (V m c main_v0 (ix2 x ⟨e.val, by omega⟩) : EReal) = m (c.tc.loc main_arg8) (ix2 x e) := by
  simp only [V, List.flatten_cons, List.flatten_nil, List.append_nil, List.cons_append, List.nil_append]
  entry_read
  change (pad S1024x128 ![0, 0] ![0, 112] ![0, 0] (m (c.tc.loc main_arg8)) (sitofp .f32 (constantI S_ 32 0#32) : FVec Ideal S_ .f32)
    pads_S1024x16_S1024x128_000_01120 h_S_ (ix2 x ⟨e.val, by omega⟩) : EReal) = _
  exact padded_at _ _ x e

/-- The stream's array. -/
abbrev streamOut (c : Dev nD) : FVec Ideal Cert.Reference3Ideal.S8x4096x1024 .f32 :=
  stream (m (c.tc.loc main_arg0)) (m (c.tc.loc main_arg1)) (m (c.tc.loc main_arg2)) (m (c.tc.loc main_arg3)) (m (c.tc.loc main_arg7))

/-- The modulated rows' array. -/
abbrev modulatedOut (c : Dev nD) : FVec Ideal Cert.Reference3Ideal.S8x4096x1024 .f32 :=
  modulated (streamOut m c) (m (c.tc.loc main_arg4)) (m (c.tc.loc main_arg5)) (m (c.tc.loc main_arg6))

section Reads

variable (c : Dev nD) (t : Fin cfg0.N)

/-- A point's block of the Fourier mixer's output. -/
theorem fourier_at (r : Fin 1024) (j : Fin 512) : iblk m c 0 t (ix3 0 r j)
    = m (c.tc.loc main_arg0) (ix3 ⟨t.val / 4, by have := lt_of_lt_of_eq t.isLt N_0; omega⟩ ⟨t.val % 4 * 1024 + r.val, by omega⟩ j) := by
  have e := idx t
  blk_point [iblk, V, e]

/-- A point's block of the scan mixer's output. -/
theorem scan_at (r : Fin 1024) (j : Fin 1536) : iblk m c 1 t (ix3 0 r j)
    = m (c.tc.loc main_arg1) (ix3 ⟨t.val / 4, by have := lt_of_lt_of_eq t.isLt N_0; omega⟩ ⟨t.val % 4 * 1024 + r.val, by omega⟩ j) := by
  have e := idx t
  blk_point [iblk, V, e]

/-- A point's block of the residual stream. -/
theorem residual_at (r d : Fin 1024) : iblk m c 2 t (ix3 0 r d)
    = m (c.tc.loc main_arg2) (ix3 ⟨t.val / 4, by have := lt_of_lt_of_eq t.isLt N_0; omega⟩ ⟨t.val % 4 * 1024 + r.val, by omega⟩ d) := by
  have e := idx t
  blk_point [iblk, V, e]

/-- A point's block of the gate. -/
theorem gate_at (d : Fin 1024) : iblk m c 3 t (ix3 0 0 d)
    = m (c.tc.loc main_arg3) (ix3 ⟨t.val / 4, by have := lt_of_lt_of_eq t.isLt N_0; omega⟩ 0 d) := by
  have e := idx t
  blk_point [iblk, V, e]

/-- A point's block of the shift. -/
theorem shift_at (d : Fin 1024) : iblk m c 4 t (ix3 0 0 d)
    = m (c.tc.loc main_arg4) (ix3 ⟨t.val / 4, by have := lt_of_lt_of_eq t.isLt N_0; omega⟩ 0 d) := by
  have e := idx t
  blk_point [iblk, V, e]

/-- A point's block of the scale. -/
theorem scale_at (d : Fin 1024) : iblk m c 5 t (ix3 0 0 d)
    = m (c.tc.loc main_arg5) (ix3 ⟨t.val / 4, by have := lt_of_lt_of_eq t.isLt N_0; omega⟩ 0 d) := by
  have e := idx t
  blk_point [iblk, V, e]

/-- The norm's weight, whole at every point. -/
theorem norm_at (d : Fin 1024) : iblk m c 6 t (ix2 0 d) = m (c.tc.loc main_arg6) (ix2 0 d) := by
  have e := idx t
  blk_point [iblk, V, e]

/-- The projection's weight, whole at every point. -/
theorem weight_at (j : Fin 2048) (d : Fin 1024) : iblk m c 7 t (ix2 j d) = V m c main_v1 (ix2 j d) := by
  have e := idx t
  blk_point [iblk, e]

/-- The part of the weight that meets the Fourier mixer's output. -/
theorem weight_low (j : Fin 512) (d : Fin 1024) :
    (View.ld (iblk m c 7 t) r0_1 (ix2 j d) : EReal) = m (c.tc.loc main_arg7) (ix2 ⟨j.val, by omega⟩ d) := by
  rw [← weight_in m c, ← weight_at m c t]
  pointwise

/-- The part of the weight that meets the scan mixer's output. -/
theorem weight_high (j : Fin 1536) (d : Fin 1024) :
    (View.ld (iblk m c 7 t) r0_3 (ix2 j d) : EReal) = m (c.tc.loc main_arg7) (ix2 ⟨512 + j.val, by omega⟩ d) := by
  rw [← weight_in m c, ← weight_at m c t]
  pointwise

/-- The router's weight, whole at every point. -/
theorem router_at (x : Fin 1024) (e : Fin 128) : iblk m c 8 t (ix2 x e) = V m c main_v0 (ix2 x e) := by
  have h := idx t
  blk_point [iblk, h]

/-- The stream's element that the body computes at a point. -/
theorem sum_eq (r d : Fin 1024) :
    (k0_pay1 (iblk m c 0 t) (View.ld (iblk m c 7 t) r0_1) (iblk m c 1 t) (View.ld (iblk m c 7 t) r0_3) (iblk m c 2 t) (iblk m c 3 t) (ix2 r d) : EReal)
      = streamOut m c (ix3 ⟨t.val / 4, by have := lt_of_lt_of_eq t.isLt N_0; omega⟩ ⟨t.val % 4 * 1024 + r.val, by omega⟩ d) := by
  rw [Body.sum_at, streamOut, Cert.OutprojRef.stream_at]
  simp only [weight_low m c t, weight_high m c t, fourier_at m c t, scan_at m c t, residual_at m c t, gate_at m c t]

/-- The modulated element that the body computes at a point. -/
theorem modulated_eq (r d : Fin 1024) :
    (k0_pay6 (k0_pay1 (iblk m c 0 t) (View.ld (iblk m c 7 t) r0_1) (iblk m c 1 t) (View.ld (iblk m c 7 t) r0_3) (iblk m c 2 t) (iblk m c 3 t))
        (iblk m c 6 t) (k0_pay3 (iblk m c 4 t)) (k0_pay4 (iblk m c 5 t))
        (k0_pay5 (iblk m c 0 t) (View.ld (iblk m c 7 t) r0_1) (iblk m c 1 t) (View.ld (iblk m c 7 t) r0_3) (iblk m c 2 t) (iblk m c 3 t)) (ix2 r d) : EReal)
      = modulatedOut m c (ix3 ⟨t.val / 4, by have := lt_of_lt_of_eq t.isLt N_0; omega⟩ ⟨t.val % 4 * 1024 + r.val, by omega⟩ d) := by
  rw [Body.modulated_at _ _ _ _ _ r d _ (fun x => sum_eq m c t r x) (fun x => by rw [← sum_eq m c t r x]; pointwise [k0_pay5]),
    modulatedOut, Cert.OutprojRef.modulated_at _ _ _ _ _ _ d _ (fun x => rfl), norm_at, shift_at, scale_at]

/-- The logit that the body computes at a point. -/
theorem logit_eq (r : Fin 1024) (e : Fin 16) :
    (∑ x : Fin 1024, (k0_pay6 (k0_pay1 (iblk m c 0 t) (View.ld (iblk m c 7 t) r0_1) (iblk m c 1 t) (View.ld (iblk m c 7 t) r0_3) (iblk m c 2 t) (iblk m c 3 t))
        (iblk m c 6 t) (k0_pay3 (iblk m c 4 t)) (k0_pay4 (iblk m c 5 t))
        (k0_pay5 (iblk m c 0 t) (View.ld (iblk m c 7 t) r0_1) (iblk m c 1 t) (View.ld (iblk m c 7 t) r0_3) (iblk m c 2 t) (iblk m c 3 t)) (ix2 r x) : EReal)
        * iblk m c 8 t (ix2 x ⟨e.val, by omega⟩))
      = logits (modulatedOut m c) (m (c.tc.loc main_arg8))
          (ix3 ⟨t.val / 4, by have := lt_of_lt_of_eq t.isLt N_0; omega⟩ ⟨t.val % 4 * 1024 + r.val, by omega⟩ e) := by
  rw [Cert.OutprojRef.logits_at]
  simp only [modulated_eq m c t, router_at m c t, router_in m c]

end Reads

/-- The first result: the residual stream with the gated projection added. -/
theorem final_stream (c : Dev nD) : (dats m 0 c).arrAt 9 (cfgs 0).N = streamOut m c := by
  refine (dats m 0 c).arrAt_eq_of_covers 9 _ (by decide +kernel) fun t hf y => ?_
  blk_simp
  have ht : t.val < 32 := lt_of_lt_of_eq t.isLt N_0
  rw [after0_9]
  frame_out
  obtain ⟨r, d, rfl⟩ : ∃ r d, y = ix3 0 r d := ⟨y 1, y 2, by idx_ext⟩
  have hi : ((View.whole main_v2_0).slice (win0_9.rect t)).emb (ix3 0 r d) = ix3 ⟨t.val / 4, by omega⟩ ⟨t.val % 4 * 1024 + r.val, by omega⟩ d := by
    have e := idx t
    blk_ext [e]
  rw [hi, ← sum_eq]
  pointwise [k0_pay2]
  rfl

/-- The second result: the modulated rows. -/
theorem final_modulated (c : Dev nD) : (dats m 0 c).arrAt 10 (cfgs 0).N = rounded (modulatedOut m c) := by
  refine (dats m 0 c).arrAt_eq_of_covers 10 _ (by decide +kernel) fun t hf y => ?_
  blk_simp
  have ht : t.val < 32 := lt_of_lt_of_eq t.isLt N_0
  rw [after0_10]
  frame_out
  obtain ⟨r, d, rfl⟩ : ∃ r d, y = ix3 0 r d := ⟨y 1, y 2, by idx_ext⟩
  have hi : ((View.whole main_v2_1).slice (win0_10.rect t)).emb (ix3 0 r d) = ix3 ⟨t.val / 4, by omega⟩ ⟨t.val % 4 * 1024 + r.val, by omega⟩ d := by
    have e := idx t
    blk_ext [e]
  rw [hi, Body.rounded_at]
  rw [squares_eq, stream_eq, shift_eq, scale_eq]
  exact modulated_eq m c t r d

/-- The third result: the probabilities. -/
theorem final_probabilities (c : Dev nD) : (dats m 0 c).arrAt 11 (cfgs 0).N
    = probabilities (logits (modulatedOut m c) (m (c.tc.loc main_arg8))) := by
  refine (dats m 0 c).arrAt_eq_of_covers 11 _ (by decide +kernel) fun t hf y => ?_
  blk_simp
  have ht : t.val < 32 := lt_of_lt_of_eq t.isLt N_0
  rw [after0_11]
  frame_out
  obtain ⟨r, e, rfl⟩ : ∃ r e, y = ix3 0 r e := ⟨y 1, y 2, by idx_ext⟩
  have hi : ((View.whole main_v2_2).slice (win0_11.rect t)).emb (ix3 0 r e) = ix3 ⟨t.val / 4, by omega⟩ ⟨t.val % 4 * 1024 + r.val, by omega⟩ e := by
    have h := idx t
    blk_ext [h]
  rw [hi]
  rw [squares_eq, stream_eq, shift_eq, scale_eq]
  refine (Body.probability_at _ _ _ _ _ _ r e _ (fun x => logit_eq m c t r x)).trans ?_
  rw [Cert.OutprojRef.probabilities_at _ _ _ e _ (fun x => rfl)]

end Cert.Kernel3Ideal.Outproj

end
-- ==== Proof.OutprojClaim.lean ====
module

public import proofs.«01_k».proof.Defs
public import proofs.«01_k».proof.Proof.OutprojValue
public import Idealize.ShloMosaic.Lib.Claim
public import Idealize.ShloMosaic.Adequacy
public import Idealize.ShloMosaic.Init

@[expose] public section

set_option maxRecDepth 16384

noncomputable section

namespace Cert.OutprojClaim

open Idealize.ShloMosaic Idealize.SL.Sem

set_option maxHeartbeats 1600000 in
/-- The output projection's call and its reference end with the same three arrays: the stream, the modulated rows and the
    router's probabilities. -/
theorem same : Cert.algebraic_Kernel3Ideal_Reference3Ideal := by
  pair_intro
  · run_from Cert.Kernel3Ideal.Gen.run_main m g
    · exact Cert.Kernel3Ideal.Gen.V_main_arg7 m c
    · exact Cert.Kernel3Ideal.Gen.V_main_arg8 m c
  · hlo_run
    · obtain ⟨h0, h1, h2, h3, h4, h5, h6, h7, h8⟩ := hagree c
      (try rw [h4]); (try rw [h5]); (try rw [h6]); (try rw [h7]); (try rw [h8])
      exact (Cert.Kernel3Ideal.Outproj.final_stream m c).symm
    · obtain ⟨h0, h1, h2, h3, h4, h5, h6, h7, h8⟩ := hagree c
      (try rw [h4]); (try rw [h5]); (try rw [h6]); (try rw [h7]); (try rw [h8])
      exact (Cert.Kernel3Ideal.Outproj.final_modulated m c).symm
    · obtain ⟨h0, h1, h2, h3, h4, h5, h6, h7, h8⟩ := hagree c
      (try rw [h4]); (try rw [h5]); (try rw [h6]); (try rw [h7]); (try rw [h8])
      exact (Cert.Kernel3Ideal.Outproj.final_probabilities m c).symm

/-- The output projection's reference runs to its end, leaves its arguments as they were and its counters at zero. -/
theorem frameRef : Cert.quiescent_Reference3Ideal := by
  intro m g _
  hlo_run
  · exact fun _ => ⟨trivial, trivial, trivial, trivial, trivial, trivial, trivial, trivial, trivial⟩
  · funext x
    obtain ⟨a, s⟩ := x
    exact s.casesOn (fun s => s.elim0) (fun s => s.elim0)

end Cert.OutprojClaim

end
-- ==== Proof.InprojRef.lean ====
module

public import proofs.«01_k».proof.Proof.Gen.Reference4Ideal
public import Idealize.ShloMosaic.Lib.Pipeline.ValueKit
public import Idealize.ShloMosaic.Lib.Pointwise

@[expose] public section

set_option maxRecDepth 16384

noncomputable section

namespace Cert.InprojRef

open Idealize.ShloMosaic Idealize.ShloMosaic.TcCoe Idealize.ShloMosaic.Tactic
open Cert.Reference4Ideal Cert.Reference4Ideal.Gen

/-- Root-mean-square normalisation of every token's row, then the modulation by scale and shift. -/
abbrev rows (A : FVec Ideal S8x4096x1024 .f32) (H C : FVec Ideal S8x1x1024 .f32) (N : FVec Ideal S1x1024 .f32) :
    FVec Ideal S8x4096x1024 .f32 :=
  addf
    (mulf
      (mulf
        (mulf A
          (broadcastInDim S8x4096x1024 ![0, 1, 2] bcast_S8x4096x1_S8x4096x1024_0_1_2
            (Host.rsqrt
              (addf
                (Host.divf
                  (broadcastInDim S8x4096x1 ![0, 1] bcast_S8x4096_S8x4096x1_0_1
                    (Host.reduceAdd (mulf A A) (constant S_ .f32 0#32) reducesTo_S8x4096x1024_S8x4096_d2 h_S_))
                  (broadcastInDim S8x4096x1 ![] bcast_S_S8x4096x1 (constant S_ .f32 1149239296#32)))
                (broadcastInDim S8x4096x1 ![] bcast_S_S8x4096x1 (constant S_ .f32 897988541#32))))))
        (broadcastInDim S8x4096x1024 ![0, 1, 2] bcast_S1x1x1024_S8x4096x1024_0_1_2
          (broadcastInDim S1x1x1024 ![1, 2] bcast_S1x1024_S1x1x1024_1_2 N)))
      (broadcastInDim S8x4096x1024 ![0, 1, 2] bcast_S8x1x1024_S8x4096x1024_0_1_2
        (addf (broadcastInDim S8x1x1024 ![] bcast_S_S8x1x1024 (constant S_ .f32 1065353216#32)) C)))
    (broadcastInDim S8x4096x1024 ![0, 1, 2] bcast_S8x1x1024_S8x4096x1024_0_1_2 H)

/-- A projection onto the Fourier mixer's width, rounded. -/
abbrev narrow (A : FVec Ideal S8x4096x1024 .f32) (W : FVec Ideal S1024x512 .f32) : FVec Ideal S8x4096x512 .bf16 :=
  truncf .bf16 (Host.dotGeneral dot_S8x4096x1024_S1024x512_S8x4096x512_2_0_01_1_n_n none A W) bitsLt_bf16_f32

/-- The projection onto the gates, the convolved channels and the steps, side by side. -/
abbrev wide (A : FVec Ideal S8x4096x1024 .f32) (W : FVec Ideal S1024x4144 .f32) : FVec Ideal S8x4096x4144 .f32 :=
  Host.dotGeneral dot_S8x4096x1024_S1024x4144_S8x4096x4144_2_0_01_1_n_n none A W

/-- The gates. -/
abbrev gates (A : FVec Ideal S8x4096x4144 .f32) : FVec Ideal S8x4096x1536 .bf16 :=
  truncf .bf16 (extractStridedSlice S8x4096x1536 ![0, 0, 0] A slices_S8x4096x4144_S8x4096x1536_0_0_0) bitsLt_bf16_f32

/-- Tokens with two further rows before and two after them. -/
abbrev between {F : FTy → Type} [FloatOps F] : (⟨S8x2x2560, .f32⟩ : BufTy).Contents (Elt F)
    → (⟨S8x4096x2560, .f32⟩ : BufTy).Contents (Elt F) → (⟨S8x2x2560, .f32⟩ : BufTy).Contents (Elt F)
    → (⟨S8x4100x2560, .f32⟩ : BufTy).Contents (Elt F) :=
  fun Z A Y => concatenate S8x4100x2560 1 [⟨S8x2x2560, Z⟩, ⟨S8x4096x2560, A⟩, ⟨S8x2x2560, Y⟩]
    concatenates_S8x2x2560_S8x4096x2560_S8x2x2560_S8x4100x2560_d1

/-- The channels to convolve, two rows of zeros at either end of the sequence. -/
abbrev extended (A : FVec Ideal S8x4096x4144 .f32) : FVec Ideal S8x4100x2560 .f32 :=
  between (F := Ideal) (broadcastInDim S8x2x2560 ![] bcast_S_S8x2x2560 (constant (F := Ideal) S_ .f32 0#32))
    (extractStridedSlice S8x4096x2560 ![0, 0, 1536] A slices_S8x4096x4144_S8x4096x2560_0_0_1536)
    (broadcastInDim S8x2x2560 ![] bcast_S_S8x2x2560 (constant (F := Ideal) S_ .f32 0#32))

/-- One tap of the convolution: a weight per channel times the shifted rows. -/
abbrev tap (w : FVec Ideal S1x2560 .f32) (U : FVec Ideal S8x4096x2560 .f32) : FVec Ideal S8x4096x2560 .f32 :=
  mulf (broadcastInDim S8x4096x2560 ![0, 1, 2] bcast_S1x1x2560_S8x4096x2560_0_1_2
    (broadcastInDim S1x1x2560 ![2] bcast_S2560_S1x1x2560_2 (shapeCast S2560 w shapeCasts_S1x2560_S2560))) U

/-- The convolution along the sequence with its bias. -/
abbrev convolved (U : FVec Ideal S8x4100x2560 .f32) (W : FVec Ideal S5x2560 .f32) (B : FVec Ideal S1x2560 .f32) :
    FVec Ideal S8x4096x2560 .f32 :=
  addf
    (addf
      (addf
        (addf
          (addf
            (tap (extractStridedSlice S1x2560 ![0, 0] W slices_S5x2560_S1x2560_0_0)
              (extractStridedSlice S8x4096x2560 ![0, 0, 0] U slices_S8x4100x2560_S8x4096x2560_0_0_0))
            (tap (extractStridedSlice S1x2560 ![1, 0] W slices_S5x2560_S1x2560_1_0)
              (extractStridedSlice S8x4096x2560 ![0, 1, 0] U slices_S8x4100x2560_S8x4096x2560_0_1_0)))
          (tap (extractStridedSlice S1x2560 ![2, 0] W slices_S5x2560_S1x2560_2_0)
            (extractStridedSlice S8x4096x2560 ![0, 2, 0] U slices_S8x4100x2560_S8x4096x2560_0_2_0)))
        (tap (extractStridedSlice S1x2560 ![3, 0] W slices_S5x2560_S1x2560_3_0)
          (extractStridedSlice S8x4096x2560 ![0, 3, 0] U slices_S8x4100x2560_S8x4096x2560_0_3_0)))
      (tap (extractStridedSlice S1x2560 ![4, 0] W slices_S5x2560_S1x2560_4_0)
        (extractStridedSlice S8x4096x2560 ![0, 4, 0] U slices_S8x4100x2560_S8x4096x2560_0_4_0)))
    (broadcastInDim S8x4096x2560 ![0, 1, 2] bcast_S1x1x2560_S8x4096x2560_0_1_2
      (broadcastInDim S1x1x2560 ![1, 2] bcast_S1x2560_S1x1x2560_1_2 B))

/-- A value times its logistic function. -/
abbrev activated (Y : FVec Ideal S8x4096x2560 .f32) : FVec Ideal S8x4096x2560 .f32 :=
  mulf Y
    (Host.divf (broadcastInDim S8x4096x2560 ![] bcast_S_S8x4096x2560 (constant S_ .f32 1065353216#32))
      (addf (broadcastInDim S8x4096x2560 ![] bcast_S_S8x4096x2560 (constant S_ .f32 1065353216#32)) (Host.exp (Host.negf Y))))

/-- The scan's inputs among the activated channels. -/
abbrev inputs (Y : FVec Ideal S8x4096x2560 .f32) : FVec Ideal S8x4096x1536 .bf16 :=
  truncf .bf16 (extractStridedSlice S8x4096x1536 ![0, 0, 0] (activated Y) slices_S8x4096x2560_S8x4096x1536_0_0_0) bitsLt_bf16_f32

/-- The scan's two coefficient rows among the activated channels. -/
abbrev coefficients (Y : FVec Ideal S8x4096x2560 .f32) : FVec Ideal S8x4096x1024 .bf16 :=
  truncf .bf16 (extractStridedSlice S8x4096x1024 ![0, 0, 1536] (activated Y) slices_S8x4096x2560_S8x4096x1024_0_0_1536) bitsLt_bf16_f32

/-- Rows of forty-eight with further lanes after them. -/
abbrev widened {F : FTy → Type} [FloatOps F] : (⟨S8x4096x48, .f32⟩ : BufTy).Contents (Elt F) → (⟨S8x4096x80, .f32⟩ : BufTy).Contents (Elt F)
    → (⟨S8x4096x128, .f32⟩ : BufTy).Contents (Elt F) :=
  fun A B => concatenate S8x4096x128 2 [⟨S8x4096x48, A⟩, ⟨S8x4096x80, B⟩] concatenates_S8x4096x48_S8x4096x80_S8x4096x128_d2

/-- The steps before their softplus, zeros in the lanes past the heads. -/
abbrev raw (A : FVec Ideal S8x4096x4144 .f32) (D : FVec Ideal S2x24 .f32) : FVec Ideal S8x4096x128 .f32 :=
  widened (F := Ideal)
    (addf (extractStridedSlice S8x4096x48 ![0, 0, 4096] A slices_S8x4096x4144_S8x4096x48_0_0_4096)
      (broadcastInDim S8x4096x48 ![0, 1, 2] bcast_S1x1x48_S8x4096x48_0_1_2
        (broadcastInDim S1x1x48 ![2] bcast_S48_S1x1x48_2 (shapeCast S48 D shapeCasts_S2x24_S48))))
    (broadcastInDim S8x4096x80 ![] bcast_S_S8x4096x80 (constant (F := Ideal) S_ .f32 0#32))

/-- The zero the softplus compares with. -/
abbrev zeros : FVec Ideal S8x4096x128 .f32 := broadcastInDim S8x4096x128 ![] bcast_S_S8x4096x128 (constant (F := Ideal) S_ .f32 0#32)

/-- The softplus. -/
abbrev steps (Y : FVec Ideal S8x4096x128 .f32) : FVec Ideal S8x4096x128 .f32 :=
  select (cmpf .une (subf Y zeros) (subf Y zeros)) (addf Y zeros)
    (addf (maximumf Y zeros) (Host.log1p (Host.exp (Host.negf (Host.absf (subf Y zeros))))))

/-- One element of the modulated rows. -/
theorem rows_at (A : FVec Ideal S8x4096x1024 .f32) (H C : FVec Ideal S8x1x1024 .f32) (N : FVec Ideal S1x1024 .f32)
    (b : Fin 8) (k : Fin 4096) (d : Fin 1024) :
    rows A H C N (ix3 b k d)
      = (A (ix3 b k d) * Ideal.rsqrt (Ideal.div (∑ x, A (ix3 b k x) * A (ix3 b k x)) (Ideal.ofBits FTy.f32 1149239296#32) + Ideal.ofBits FTy.f32 897988541#32)
          * N (ix2 0 d) * (Ideal.ofBits FTy.f32 1065353216#32 + C (ix3 b 0 d)) + H (ix3 b 0 d) : EReal) := by
  pointwise

/-- One element of a narrow projection. -/
theorem narrow_at (A : FVec Ideal S8x4096x1024 .f32) (W : FVec Ideal S1024x512 .f32) (b : Fin 8) (k : Fin 4096) (d : Fin 512) :
    narrow A W (ix3 b k d) = (∑ x : Fin 1024, A (ix3 b k x) * W (ix2 x d) : EReal) := by
  pointwise

/-- One element of the wide projection. -/
theorem wide_at (A : FVec Ideal S8x4096x1024 .f32) (W : FVec Ideal S1024x4144 .f32) (b : Fin 8) (k : Fin 4096) (d : Fin 4144) :
    wide A W (ix3 b k d) = (∑ x : Fin 1024, A (ix3 b k x) * W (ix2 x d) : EReal) := by
  pointwise

/-- One gate. -/
theorem gates_at (A : FVec Ideal S8x4096x4144 .f32) (b : Fin 8) (k : Fin 4096) (d : Fin 1536) :
    (gates A (ix3 b k d) : EReal) = A (ix3 b k ⟨d.val, by omega⟩) := by
  pointwise

/-- A channel's value at row `s` of the sequence with its zeros: token `s - 2`. -/
def channel (A : FVec Ideal S8x4096x4144 .f32) (b : Fin 8) (s : ℕ) (d : Fin 2560) : EReal :=
  if h : 2 ≤ s ∧ s < 4098 then A (ix3 b ⟨s - 2, by omega⟩ ⟨1536 + d.val, by omega⟩) else 0

theorem extended_at (A : FVec Ideal S8x4096x4144 .f32) (b : Fin 8) (s : Fin 4100) (d : Fin 2560) :
    (extended A (ix3 b s d) : EReal) = channel A b s.val d := by
  unfold channel
  pointwise
  by_cases h1 : s.val < 2
  · rw [dif_pos h1, dif_neg (by omega)]
  · by_cases h2 : s.val - 2 < 4096
    · rw [dif_neg h1, dif_pos h2, dif_pos (by omega)]
    · rw [dif_neg h1, dif_neg h2, dif_neg (by omega)]

/-- A value times its logistic function. -/
def silu (y : EReal) : EReal := y * Ideal.logistic y

/-- One convolved value. -/
theorem convolved_at (U : FVec Ideal S8x4100x2560 .f32) (W : FVec Ideal S5x2560 .f32) (B : FVec Ideal S1x2560 .f32)
    (b : Fin 8) (k : Fin 4096) (d : Fin 2560) :
    convolved U W B (ix3 b k d)
      = (W (ix2 0 d) * U (ix3 b ⟨k.val, by omega⟩ d) + W (ix2 1 d) * U (ix3 b ⟨k.val + 1, by omega⟩ d)
        + W (ix2 2 d) * U (ix3 b ⟨k.val + 2, by omega⟩ d) + W (ix2 3 d) * U (ix3 b ⟨k.val + 3, by omega⟩ d)
        + W (ix2 4 d) * U (ix3 b ⟨k.val + 4, by omega⟩ d) + B (ix2 0 d) : EReal) := by
  pointwise
  simp only [Nat.add_comm]

/-- One of the scan's inputs. -/
theorem inputs_at (Y : FVec Ideal S8x4096x2560 .f32) (b : Fin 8) (k : Fin 4096) (d : Fin 1536) :
    (inputs Y (ix3 b k d) : EReal) = silu (Y (ix3 b k ⟨d.val, by omega⟩)) := by
  pointwise [silu]
  rfl

/-- One of the scan's coefficients. -/
theorem coefficients_at (Y : FVec Ideal S8x4096x2560 .f32) (b : Fin 8) (k : Fin 4096) (d : Fin 1024) :
    (coefficients Y (ix3 b k d) : EReal) = silu (Y (ix3 b k ⟨1536 + d.val, by omega⟩)) := by
  pointwise [silu]
  rfl

/-- The softplus of one number. -/
def softplus (y : EReal) : EReal := max y 0 + Ideal.log1p (Ideal.exp (-(FloatOps.absf (F := Ideal) (φ := .f32) y : EReal)))

/-- One step. -/
theorem steps_at (Y : FVec Ideal S8x4096x128 .f32) (b : Fin 8) (k : Fin 4096) (e : Fin 128) :
    (steps Y (ix3 b k e) : EReal) = softplus (Y (ix3 b k e)) := by
  pointwise [softplus]
  rw [if_neg (by simp)]

/-- One step before its softplus. -/
theorem raw_at (A : FVec Ideal S8x4096x4144 .f32) (D : FVec Ideal S2x24 .f32) (b : Fin 8) (k : Fin 4096) (e : Fin 128) :
    (raw A D (ix3 b k e) : EReal) = if h : e.val < 48 then
      A (ix3 b k ⟨4096 + e.val, by omega⟩) + D (ix2 ⟨e.val / 24, by omega⟩ ⟨e.val % 24, by omega⟩) else 0 := by
  pointwise

end Cert.InprojRef

end
-- ==== Proof.InprojBody.lean ====
module

public import proofs.«01_k».proof.Proof.Gen.Kernel4Ideal.Frame
public import proofs.«01_k».proof.Proof.InprojRef

@[expose] public section

set_option maxRecDepth 16384

noncomputable section

namespace Cert.Kernel4Ideal.Body

open Idealize.ShloMosaic Idealize.ShloMosaic.TcCoe Idealize.ShloMosaic.Tactic
open Cert.Kernel4Ideal Cert.Kernel4Ideal.Gen
open Cert.InprojRef (softplus)

/-- A modulated row's element, from the token's row `K`, the norm's weight, the shift and the scale. -/
def modulate (K : Fin 1024 → EReal) (n h s : EReal) (d : Fin 1024) : EReal :=
  K d * Ideal.rsqrt (Ideal.div (∑ x, K x * K x) (Ideal.ofBits FTy.f32 1149239296#32) + Ideal.ofBits FTy.f32 897988541#32)
    * n * (Ideal.ofBits FTy.f32 1065353216#32 + s) + h

/-- A block's modulated rows. -/
theorem row_at (N : Vec Ideal S1x1024 .f32) (H C : Vec Ideal S1x1x1024 .f32) (A : Vec Ideal S1x512x1024 .f32) (r : Fin 512) (d : Fin 1024) :
    (k0_pay4 N H C A (ix2 r d) : EReal) = modulate (fun x => A (ix3 0 r x)) (N (ix2 0 d)) (H (ix3 0 0 d)) (C (ix3 0 0 d)) d := by
  unfold modulate
  pointwise [k0_pay4, k0_pay3, k0_pay2]

/-- The modulated rows before a block. -/
theorem before_at (N : Vec Ideal S1x1024 .f32) (H C : Vec Ideal S1x1x1024 .f32) (A B : Vec Ideal S1x8x1024 .f32) (q : Fin 8) (d : Fin 1024) :
    (k0_pay8 N (k0_pay2 H) (k0_pay3 C) (k0_pay5 A B) (k0_pay6 A B) k0_pay7 (ix2 ⟨q.val, by omega⟩ d) : EReal)
      = modulate (fun x => A (ix3 0 q x)) (N (ix2 0 d)) (H (ix3 0 0 d)) (C (ix3 0 0 d)) d := by
  unfold modulate
  pointwise [k0_pay8, k0_pay7, k0_pay6, k0_pay5, k0_pay3, k0_pay2]

/-- The modulated rows after a block. -/
theorem after_at (N : Vec Ideal S1x1024 .f32) (H C : Vec Ideal S1x1x1024 .f32) (A B : Vec Ideal S1x8x1024 .f32) (q : Fin 8) (d : Fin 1024) :
    (k0_pay8 N (k0_pay2 H) (k0_pay3 C) (k0_pay5 A B) (k0_pay6 A B) k0_pay7 (ix2 ⟨8 + q.val, by omega⟩ d) : EReal)
      = modulate (fun x => B (ix3 0 q x)) (N (ix2 0 d)) (H (ix3 0 0 d)) (C (ix3 0 0 d)) d := by
  unfold modulate
  pointwise [k0_pay8, k0_pay7, k0_pay6, k0_pay5, k0_pay3, k0_pay2]

/-- A block's steps. -/
theorem steps_at (A : FVec Ideal S512x1024 .bf16) (W : Vec Ideal S1024x128 .bf16) (B : Vec Ideal S1x128 .f32) (r : Fin 512) (e : Fin 128) :
    (k0_pay9 A W B (ix3 0 r e) : EReal) = softplus ((∑ x, A (ix2 r x) * W (ix2 x e)) + B (ix2 0 e)) := by
  unfold softplus
  pointwise [k0_pay9]
  simp only [zero_sub]

end Cert.Kernel4Ideal.Body

end
-- ==== Proof.InprojReads.lean ====
module

public import proofs.«01_k».proof.Proof.InprojBody

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)

/-- Which block of every operand a grid point reads or writes. -/
theorem idx : ∀ t : Fin cfg0.N, win0_0.index t = ![t.val / 8, t.val % 8, 0]
    ∧ win0_1.index t = ![t.val / 8, 64 * (t.val % 8) - 1, 0]
    ∧ win0_2.index t = ![t.val / 8, min (64 * (t.val % 8 + 1)) 511, 0]
    ∧ win0_3.index t = ![t.val / 8, 0, 0]
    ∧ win0_4.index t = ![t.val / 8, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 8, t.val % 8, 0]
    ∧ win0_11.index t = ![t.val / 8, t.val % 8, 0]
    ∧ win0_12.index t = ![t.val / 8, t.val % 8, 0]
    ∧ win0_13.index t = ![t.val / 8, t.val % 8, 0]
    ∧ win0_14.index t = ![t.val / 8, t.val % 8, 0]
    ∧ win0_15.index t = ![t.val / 8, t.val % 8, 0] :=
  (by decide +kernel : ∀ t : Fin grid0.N, _)

/-- A grid point's second coordinate. -/
theorem second : ∀ t : Fin cfg0.N, (grid0.coords t 1 : ℕ) = t.val % 8 :=
  (by decide +kernel : ∀ t : Fin grid0.N, _)

/-- The modulated rows' array. -/
def rowsOut (c : Dev nD) : FVec Ideal Cert.Reference4Ideal.S8x4096x1024 .f32 :=
  rows (m (c.tc.loc main_arg0)) (m (c.tc.loc main_arg1)) (m (c.tc.loc main_arg2)) (m (c.tc.loc main_arg3))

/-- The wide projection's array. -/
def wideOut (c : Dev nD) : FVec Ideal Cert.Reference4Ideal.S8x4096x4144 .f32 := wide (rowsOut m c) (m (c.tc.loc main_arg6))

/-- Four weights side by side. -/
abbrev joined {F : FTy → Type} [FloatOps F] : (⟨S1024x512, .f32⟩ : BufTy).Contents (Elt F) → (⟨S1024x512, .f32⟩ : BufTy).Contents (Elt F)
    → (⟨S1024x4144, .f32⟩ : BufTy).Contents (Elt F) → (⟨S1024x80, .f32⟩ : BufTy).Contents (Elt F) → (⟨S1024x5248, .f32⟩ : BufTy).Contents (Elt F) :=
  fun A B C Z => concatenate S1024x5248 1 [⟨S1024x512, A⟩, ⟨S1024x512, B⟩, ⟨S1024x4144, C⟩, ⟨S1024x80, Z⟩]
    concatenates_S1024x512_S1024x512_S1024x4144_S1024x80_S1024x5248_d1

theorem joined_at (A B : FVec Ideal S1024x512 .f32) (C : FVec Ideal S1024x4144 .f32) (Z : FVec Ideal S1024x80 .f32) (x : Fin 1024) (d : Fin 5248) :
    (joined (F := Ideal) A B C Z (ix2 x d) : EReal) = if h : d.val < 512 then A (ix2 x ⟨d.val, h⟩) else
      if h' : d.val - 512 < 512 then B (ix2 x ⟨d.val - 512, h'⟩) else
      if h'' : d.val - 512 - 512 < 4144 then C (ix2 x ⟨d.val - 512 - 512, h''⟩) else Z (ix2 x ⟨d.val - 512 - 512 - 4144, by omega⟩) := by
  pointwise

/-- The buffers once the zeros are made. -/
abbrev early (c : Dev nD) : (b : DevRef τ sig) → b.ty.Contents (Elt Ideal) :=
  StableHlo.after [StableHlo.nullary main_cst (constant (F := Ideal) S_ .f32 0x00000000#32),
    StableHlo.unary main_cst main_v0 (broadcastInDim S1024x80 ![] bcast_S_S1024x80 : (⟨S_, .f32⟩ : BufTy).Contents (Elt Ideal) → (⟨S1024x80, .f32⟩ : BufTy).Contents (Elt Ideal))]
    (fun b => m (c, b))

theorem early_4 (c : Dev nD) : early m c (Proc.devRef .tc main_arg4) = m (c.tc.loc main_arg4) := by
  unfold early
  after_results

theorem early_5 (c : Dev nD) : early m c (Proc.devRef .tc main_arg5) = m (c.tc.loc main_arg5) := by
  unfold early
  after_results

theorem early_6 (c : Dev nD) : early m c (Proc.devRef .tc main_arg6) = m (c.tc.loc main_arg6) := by
  unfold early
  after_results

theorem early_0 (c : Dev nD) : early m c (Proc.devRef .tc main_v0)
    = (broadcastInDim S1024x80 ![] bcast_S_S1024x80 (constant (F := Ideal) S_ .f32 0#32) : FVec Ideal S1024x80 .f32) := by
  unfold early
  after_results

/-- The weights as the kernel is given them. -/
theorem weights_whole (c : Dev nD) :
    V m c main_v2 = truncf (F := Ideal) .bf16 (joined (F := Ideal) (early m c (Proc.devRef .tc main_arg4)) (early m c (Proc.devRef .tc main_arg5))
      (early m c (Proc.devRef .tc main_arg6)) (early m c (Proc.devRef .tc main_v0)) : FVec Ideal S1024x5248 .f32) bitsLt_bf16_f32 := by
  unfold V
  simp only [List.flatten_cons, List.flatten_nil, List.append_nil, List.cons_append, List.nil_append]
  after_results
  rfl

theorem weights_in (c : Dev nD) (x : Fin 1024) (d : Fin 5248) :
    (V m c main_v2 (ix2 x d) : EReal) = joined (F := Ideal) (m (c.tc.loc main_arg4)) (m (c.tc.loc main_arg5)) (m (c.tc.loc main_arg6))
      (broadcastInDim S1024x80 ![] bcast_S_S1024x80 (constant (F := Ideal) S_ .f32 0#32)) (ix2 x d) := by
  rw [weights_whole, early_4, early_5, early_6, early_0]
  rfl

/-- The Fourier mixer's first weight; -/
theorem first_in (c : Dev nD) (x : Fin 1024) (d : Fin 512) (n : ℕ) (hn : n < 5248) (h : n = d.val) :
    (V m c main_v2 (ix2 x ⟨n, hn⟩) : EReal) = m (c.tc.loc main_arg4) (ix2 x d) := by
  subst h
  rw [weights_in, joined_at, dif_pos d.isLt]

/-- its second; -/
theorem second_in (c : Dev nD) (x : Fin 1024) (d : Fin 512) (n : ℕ) (hn : n < 5248) (h : n = 512 + d.val) :
    (V m c main_v2 (ix2 x ⟨n, hn⟩) : EReal) = m (c.tc.loc main_arg5) (ix2 x d) := by
  rw [weights_in, joined_at, dif_neg (by show ¬ n < 512; omega), dif_pos (by show n - 512 < 512; omega)]
  exact congrArg (fun k => (m (c.tc.loc main_arg5) (ix2 x k) : EReal)) (Fin.ext (by show n - 512 = d.val; omega))

/-- then the wide one; -/
theorem wide_in (c : Dev nD) (x : Fin 1024) (d : Fin 4144) (n : ℕ) (hn : n < 5248) (h : n = 1024 + d.val) :
    (V m c main_v2 (ix2 x ⟨n, hn⟩) : EReal) = m (c.tc.loc main_arg6) (ix2 x d) := by
  rw [weights_in, joined_at, dif_neg (by show ¬ n < 512; omega), dif_neg (by show ¬ n - 512 < 512; omega),
    dif_pos (by show n - 512 - 512 < 4144; omega)]
  exact congrArg (fun k => (m (c.tc.loc main_arg6) (ix2 x k) : EReal)) (Fin.ext (by show n - 512 - 512 = d.val; omega))

/-- then zeros. -/
theorem zero_in (c : Dev nD) (x : Fin 1024) (n : ℕ) (hn : n < 5248) (h : 5168 ≤ n) :
    (V m c main_v2 (ix2 x ⟨n, hn⟩) : EReal) = (0 : EReal) := by
  rw [weights_in, joined_at, dif_neg (by show ¬ n < 512; omega), dif_neg (by show ¬ n - 512 < 512; omega),
    dif_neg (by show ¬ n - 512 - 512 < 4144; omega)]
  pointwise

/-- The steps' bias at a lane, zero past the heads. -/
def lanes (D : FVec Ideal S2x24 .f32) (e : Fin 128) : EReal :=
  if h : e.val < 48 then D (ix2 ⟨e.val / 24, by omega⟩ ⟨e.val % 24, by omega⟩) else 0

/-- The steps' bias with zeros appended, at any lane. -/
theorem padded_at (W : FVec Ideal S2x24 .f32) (z : FVec Ideal S_ .f32) (e : Fin 128) (hz : ∀ i, (z i : EReal) = 0) :
    (pad S1x128 ![0, 0] ![0, 80] ![0, 0] (shapeCast S1x48 W shapeCasts_S2x24_S1x48) z pads_S1x48_S1x128_000_0800 h_S_ (ix2 0 e) : EReal)
      = if h : e.val < 48 then W (ix2 ⟨e.val / 24, by omega⟩ ⟨e.val % 24, by omega⟩) else 0 := by
  pointwise
  rw [hz]

/-- The steps' bias as the kernel is given it. -/
theorem bias_in (c : Dev nD) (e : Fin 128) :
    (V m c main_v4 (ix2 0 e) : EReal) = lanes (m (c.tc.loc main_arg9)) e := by
  simp only [V, List.flatten_cons, List.flatten_nil, List.append_nil, List.cons_append, List.nil_append]
  entry_read
  change (pad S1x128 ![0, 0] ![0, 80] ![0, 0] (shapeCast S1x48 (m (c.tc.loc main_arg9)) shapeCasts_S2x24_S1x48)
    (sitofp .f32 (constantI S_ 32 0#32) : FVec Ideal S_ .f32) pads_S1x48_S1x128_000_0800 h_S_ (ix2 0 e) : EReal) = _
  refine padded_at _ (sitofp .f32 (constantI S_ 32 0#32) : FVec Ideal S_ .f32) e (fun i => ?_)
  show (((0#32 : BitVec 32).toInt : ℝ) : EReal) = 0
  simp

section Reads

variable (c : Dev nD) (t : Fin cfg0.N)

theorem x_at (r : Fin 512) (d : Fin 1024) : iblk m c 0 t (ix3 0 r d)
    = m (c.tc.loc main_arg0) (ix3 ⟨t.val / 8, by have := lt_of_lt_of_eq t.isLt N_0; omega⟩ ⟨t.val % 8 * 512 + r.val, by omega⟩ d) := by
  have e := idx t
  blk_point [iblk, V, e]

theorem xbefore_at (q : Fin 8) (d : Fin 1024) : iblk m c 1 t (ix3 0 q d)
    = m (c.tc.loc main_arg0) (ix3 ⟨t.val / 8, by have := lt_of_lt_of_eq t.isLt N_0; omega⟩ ⟨(64 * (t.val % 8) - 1) * 8 + q.val, by omega⟩ d) := by
  have e := idx t
  blk_point [iblk, V, e]

theorem xafter_at (q : Fin 8) (d : Fin 1024) : iblk m c 2 t (ix3 0 q d)
    = m (c.tc.loc main_arg0) (ix3 ⟨t.val / 8, by have := lt_of_lt_of_eq t.isLt N_0; omega⟩ ⟨min (64 * (t.val % 8 + 1)) 511 * 8 + q.val, by omega⟩ d) := by
  have e := idx t
  blk_point [iblk, V, e]

theorem shift_at (d : Fin 1024) : iblk m c 3 t (ix3 0 0 d)
    = m (c.tc.loc main_arg1) (ix3 ⟨t.val / 8, by have := lt_of_lt_of_eq t.isLt N_0; omega⟩ 0 d) := by
  have e := idx t
  blk_point [iblk, V, e]

theorem scale_at (d : Fin 1024) : iblk m c 4 t (ix3 0 0 d)
    = m (c.tc.loc main_arg2) (ix3 ⟨t.val / 8, by have := lt_of_lt_of_eq t.isLt N_0; omega⟩ 0 d) := by
  have e := idx t
  blk_point [iblk, V, e]

theorem norm_at (d : Fin 1024) : iblk m c 5 t (ix2 0 d) = m (c.tc.loc main_arg3) (ix2 0 d) := by
  have e := idx t
  blk_point [iblk, V, e]

theorem weight_at (x : Fin 1024) (d : Fin 5248) : iblk m c 6 t (ix2 x d) = V m c main_v2 (ix2 x d) := by
  have e := idx t
  blk_point [iblk, e]

theorem taps_at (j : Fin 5) (d : Fin 2560) : iblk m c 7 t (ix2 j d) = m (c.tc.loc main_arg7) (ix2 j d) := by
  have e := idx t
  blk_point [iblk, V, e]

theorem bias_at (d : Fin 2560) : iblk m c 8 t (ix2 0 d) = m (c.tc.loc main_arg8) (ix2 0 d) := by
  have e := idx t
  blk_point [iblk, V, e]

theorem lanes_at (e : Fin 128) : iblk m c 9 t (ix2 0 e) = V m c main_v4 (ix2 0 e) := by
  have e := idx t
  blk_point [iblk, e]

end Reads

end Cert.Kernel4Ideal.Inproj

end
-- ==== Proof.InprojCore.lean ====
module

public import proofs.«01_k».proof.Proof.InprojReads

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)

section Rows

variable (c : Dev nD) (t : Fin cfg0.N)

/-- A point's modulated rows are the array's. -/
theorem row_eq (r : Fin 512) (x : Fin 1024) :
    (k0_pay4 (iblk m c 5 t) (iblk m c 3 t) (iblk m c 4 t) (iblk m c 0 t) (ix2 r x) : EReal)
      = rowsOut m c (ix3 ⟨t.val / 8, by have := lt_of_lt_of_eq t.isLt N_0; omega⟩ ⟨t.val % 8 * 512 + r.val, by omega⟩ x) := by
  rw [row_at]
  simp only [x_at, shift_at, scale_at, norm_at]
  unfold rowsOut modulate
  rw [rows_at]

/-- So are the rows before it; -/
theorem before_eq (q : Fin 8) (x : Fin 1024) :
    (k0_pay8 (iblk m c 5 t) (k0_pay2 (iblk m c 3 t)) (k0_pay3 (iblk m c 4 t)) (k0_pay5 (iblk m c 1 t) (iblk m c 2 t))
        (k0_pay6 (iblk m c 1 t) (iblk m c 2 t)) k0_pay7 (ix2 ⟨q.val, by omega⟩ x) : EReal)
      = rowsOut m c (ix3 ⟨t.val / 8, by have := lt_of_lt_of_eq t.isLt N_0; omega⟩ ⟨(64 * (t.val % 8) - 1) * 8 + q.val, by omega⟩ x) := by
  rw [before_at]
  simp only [xbefore_at, shift_at, scale_at, norm_at]
  unfold rowsOut modulate
  rw [rows_at]

/-- and those after it. -/
theorem after_eq (q : Fin 8) (x : Fin 1024) :
    (k0_pay8 (iblk m c 5 t) (k0_pay2 (iblk m c 3 t)) (k0_pay3 (iblk m c 4 t)) (k0_pay5 (iblk m c 1 t) (iblk m c 2 t))
        (k0_pay6 (iblk m c 1 t) (iblk m c 2 t)) k0_pay7 (ix2 ⟨8 + q.val, by omega⟩ x) : EReal)
      = rowsOut m c (ix3 ⟨t.val / 8, by have := lt_of_lt_of_eq t.isLt N_0; omega⟩ ⟨min (64 * (t.val % 8 + 1)) 511 * 8 + q.val, by omega⟩ x) := by
  rw [after_at]
  simp only [xafter_at, shift_at, scale_at, norm_at]
  unfold rowsOut modulate
  rw [rows_at]

/-- A point's rows against the Fourier mixer's first weight; -/
theorem first_eq (r : Fin 512) (d : Fin 512) (n : ℕ) (hn : n < 5248) (h : n = d.val) :
    (∑ x : Fin 1024, (k0_pay4 (iblk m c 5 t) (iblk m c 3 t) (iblk m c 4 t) (iblk m c 0 t) (ix2 r x) : EReal) * iblk m c 6 t (ix2 x ⟨n, hn⟩))
      = narrow (rowsOut m c) (m (c.tc.loc main_arg4))
          (ix3 ⟨t.val / 8, by have := lt_of_lt_of_eq t.isLt N_0; omega⟩ ⟨t.val % 8 * 512 + r.val, by omega⟩ d) := by
  rw [narrow_at]
  refine Finset.sum_congr rfl fun x _ => ?_
  rw [row_eq, weight_at, first_in m c x d n hn h]

/-- its second; -/
theorem second_eq (r : Fin 512) (d : Fin 512) (n : ℕ) (hn : n < 5248) (h : n = 512 + d.val) :
    (∑ x : Fin 1024, (k0_pay4 (iblk m c 5 t) (iblk m c 3 t) (iblk m c 4 t) (iblk m c 0 t) (ix2 r x) : EReal) * iblk m c 6 t (ix2 x ⟨n, hn⟩))
      = narrow (rowsOut m c) (m (c.tc.loc main_arg5))
          (ix3 ⟨t.val / 8, by have := lt_of_lt_of_eq t.isLt N_0; omega⟩ ⟨t.val % 8 * 512 + r.val, by omega⟩ d) := by
  rw [narrow_at]
  refine Finset.sum_congr rfl fun x _ => ?_
  rw [row_eq, weight_at, second_in m c x d n hn h]

/-- the wide one. -/
theorem wide_eq (r : Fin 512) (d : Fin 4144) (n : ℕ) (hn : n < 5248) (h : n = 1024 + d.val) :
    (∑ x : Fin 1024, (k0_pay4 (iblk m c 5 t) (iblk m c 3 t) (iblk m c 4 t) (iblk m c 0 t) (ix2 r x) : EReal) * iblk m c 6 t (ix2 x ⟨n, hn⟩))
      = wideOut m c (ix3 ⟨t.val / 8, by have := lt_of_lt_of_eq t.isLt N_0; omega⟩ ⟨t.val % 8 * 512 + r.val, by omega⟩ d) := by
  unfold wideOut
  rw [wide_at]
  refine Finset.sum_congr rfl fun x _ => ?_
  rw [row_eq, weight_at, wide_in m c x d n hn h]

/-- The rows before a point's block, against the wide weight; -/
theorem wide_before (q : Fin 8) (d : Fin 4144) (n : ℕ) (hn : n < 5248) (h : n = 1024 + d.val) :
    (∑ x : Fin 1024, (k0_pay8 (iblk m c 5 t) (k0_pay2 (iblk m c 3 t)) (k0_pay3 (iblk m c 4 t)) (k0_pay5 (iblk m c 1 t) (iblk m c 2 t))
        (k0_pay6 (iblk m c 1 t) (iblk m c 2 t)) k0_pay7 (ix2 ⟨q.val, by omega⟩ x) : EReal) * iblk m c 6 t (ix2 x ⟨n, hn⟩))
      = wideOut m c (ix3 ⟨t.val / 8, by have := lt_of_lt_of_eq t.isLt N_0; omega⟩ ⟨(64 * (t.val % 8) - 1) * 8 + q.val, by omega⟩ d) := by
  unfold wideOut
  rw [wide_at]
  refine Finset.sum_congr rfl fun x _ => ?_
  rw [before_eq, weight_at, wide_in m c x d n hn h]

/-- and those after it. -/
theorem wide_after (q : Fin 8) (d : Fin 4144) (n : ℕ) (hn : n < 5248) (h : n = 1024 + d.val) :
    (∑ x : Fin 1024, (k0_pay8 (iblk m c 5 t) (k0_pay2 (iblk m c 3 t)) (k0_pay3 (iblk m c 4 t)) (k0_pay5 (iblk m c 1 t) (iblk m c 2 t))
        (k0_pay6 (iblk m c 1 t) (iblk m c 2 t)) k0_pay7 (ix2 ⟨8 + q.val, by omega⟩ x) : EReal) * iblk m c 6 t (ix2 x ⟨n, hn⟩))
      = wideOut m c (ix3 ⟨t.val / 8, by have := lt_of_lt_of_eq t.isLt N_0; omega⟩ ⟨min (64 * (t.val % 8 + 1)) 511 * 8 + q.val, by omega⟩ d) := by
  unfold wideOut
  rw [wide_at]
  refine Finset.sum_congr rfl fun x _ => ?_
  rw [after_eq, weight_at, wide_in m c x d n hn h]

end Rows

end Cert.Kernel4Ideal.Inproj

end
-- ==== Proof.InprojScratch.lean ====
module

public import proofs.«01_k».proof.Proof.InprojCore

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)

/-- A load of rows of a scratch buffer reads what was stored there. -/
theorem load_at (v : View sig .tc .vmem S528x512 .f32) (L : List (View.Piece (Elt Ideal) S528x512 .f32)) (r0 : ℕ)
    (inb : ∀ a, (![r0, 0] : Fin 2 → ℕ) a + S144x512.size a ≤ S528x512.size a) (ρ : Fin 144) (k : Fin 512) (hr : r0 + ρ.val < 528) :
    v.readCov L (Rect.unit (s := S528x512) ![r0, 0] S144x512.size inb).toLoadRect (ix2 ρ k)
      = View.canon L (ix2 ⟨r0 + ρ.val, hr⟩ k : S528x512.Idx) := by
  rw [View.readCov_eq_canon']
  refine congrArg (View.canon L) ?_
  funext a
  apply Fin.ext
  fin_cases a
  · show r0 + 1 * ρ.val = r0 + ρ.val
    omega
  · show 0 + 1 * k.val = k.val
    omega

/-- Six stores, three per half of the lanes, fill a scratch buffer. -/
theorem cover_at (w1 w2 w4 w5 : S8x256.Idx → EReal) (w3 w6 : S512x256.Idx → EReal) (z : S528x512.Idx) :
    ∃ p ∈ ([⟨Rect.unit (s := S528x512) ![520, 256] S8x256.size inb_S528x512_S8x256_520_256, w1⟩,
      ⟨Rect.unit (s := S528x512) ![0, 256] S8x256.size inb_S528x512_S8x256_0_256, w2⟩,
      ⟨Rect.unit (s := S528x512) ![8, 256] S512x256.size inb_S528x512_S512x256_8_256, w3⟩,
      ⟨Rect.unit (s := S528x512) ![520, 0] S8x256.size inb_S528x512_S8x256_520_0, w4⟩,
      ⟨Rect.unit (s := S528x512) ![0, 0] S8x256.size inb_S528x512_S8x256_0_0, w5⟩,
      ⟨Rect.unit (s := S528x512) ![8, 0] S512x256.size inb_S528x512_S512x256_8_0, w6⟩] : List (View.Piece (Elt Ideal) S528x512 .f32)), z ∈ p.1.set := by
  have h0 : (z 0).val < 528 := (z 0).isLt
  have h1 : (z 1).val < 512 := (z 1).isLt
  by_cases hk : (z 1).val < 256 <;> by_cases ha : (z 0).val < 8 <;> by_cases hb : (z 0).val < 520
  · refine ⟨_, .tail _ (.tail _ (.tail _ (.tail _ (.head _)))), ?_⟩
    refine (Rect.mem_set_unit (inb := inb_S528x512_S8x256_0_0)).mpr fun a => ?_
    fin_cases a
    · show 0 ≤ (z 0).val ∧ (z 0).val < 0 + 8
      omega
    · show 0 ≤ (z 1).val ∧ (z 1).val < 0 + 256
      omega
  · omega
  · refine ⟨_, .tail _ (.tail _ (.tail _ (.tail _ (.tail _ (.head _))))), ?_⟩
    refine (Rect.mem_set_unit (inb := inb_S528x512_S512x256_8_0)).mpr fun a => ?_
    fin_cases a
    · show 8 ≤ (z 0).val ∧ (z 0).val < 8 + 512
      omega
    · show 0 ≤ (z 1).val ∧ (z 1).val < 0 + 256
      omega
  · refine ⟨_, .tail _ (.tail _ (.tail _ (.head _))), ?_⟩
    refine (Rect.mem_set_unit (inb := inb_S528x512_S8x256_520_0)).mpr fun a => ?_
    fin_cases a
    · show 520 ≤ (z 0).val ∧ (z 0).val < 520 + 8
      omega
    · show 0 ≤ (z 1).val ∧ (z 1).val < 0 + 256
      omega
  · refine ⟨_, .tail _ (.head _), ?_⟩
    refine (Rect.mem_set_unit (inb := inb_S528x512_S8x256_0_256)).mpr fun a => ?_
    fin_cases a
    · show 0 ≤ (z 0).val ∧ (z 0).val < 0 + 8
      omega
    · show 256 ≤ (z 1).val ∧ (z 1).val < 256 + 256
      omega
  · omega
  · refine ⟨_, .tail _ (.tail _ (.head _)), ?_⟩
    refine (Rect.mem_set_unit (inb := inb_S528x512_S512x256_8_256)).mpr fun a => ?_
    fin_cases a
    · show 8 ≤ (z 0).val ∧ (z 0).val < 8 + 512
      omega
    · show 256 ≤ (z 1).val ∧ (z 1).val < 256 + 256
      omega
  · refine ⟨_, .head _, ?_⟩
    refine (Rect.mem_set_unit (inb := inb_S528x512_S8x256_520_256)).mpr fun a => ?_
    fin_cases a
    · show 520 ≤ (z 0).val ∧ (z 0).val < 520 + 8
      omega
    · show 256 ≤ (z 1).val ∧ (z 1).val < 256 + 256
      omega

/-- What is read of a scratch buffer so filled: the store its element lies under. -/
theorem filled_at (w1 w2 w4 w5 : S8x256.Idx → EReal) (w3 w6 : S512x256.Idx → EReal) (z : S528x512.Idx) (v : EReal)
    (g1 : ∀ (q : Fin 8) (k : Fin 256), (z 0).val = 520 + q.val → (z 1).val = 256 + k.val → w1 (ix2 q k) = v)
    (g2 : ∀ (q : Fin 8) (k : Fin 256), (z 0).val = q.val → (z 1).val = 256 + k.val → w2 (ix2 q k) = v)
    (g3 : ∀ (q : Fin 512) (k : Fin 256), (z 0).val = 8 + q.val → (z 1).val = 256 + k.val → w3 (ix2 q k) = v)
    (g4 : ∀ (q : Fin 8) (k : Fin 256), (z 0).val = 520 + q.val → (z 1).val = k.val → w4 (ix2 q k) = v)
    (g5 : ∀ (q : Fin 8) (k : Fin 256), (z 0).val = q.val → (z 1).val = k.val → w5 (ix2 q k) = v)
    (g6 : ∀ (q : Fin 512) (k : Fin 256), (z 0).val = 8 + q.val → (z 1).val = k.val → w6 (ix2 q k) = v) :
    View.canon ([⟨Rect.unit (s := S528x512) ![520, 256] S8x256.size inb_S528x512_S8x256_520_256, w1⟩,
      ⟨Rect.unit (s := S528x512) ![0, 256] S8x256.size inb_S528x512_S8x256_0_256, w2⟩,
      ⟨Rect.unit (s := S528x512) ![8, 256] S512x256.size inb_S528x512_S512x256_8_256, w3⟩,
      ⟨Rect.unit (s := S528x512) ![520, 0] S8x256.size inb_S528x512_S8x256_520_0, w4⟩,
      ⟨Rect.unit (s := S528x512) ![0, 0] S8x256.size inb_S528x512_S8x256_0_0, w5⟩,
      ⟨Rect.unit (s := S528x512) ![8, 0] S512x256.size inb_S528x512_S512x256_8_0, w6⟩] : List (View.Piece (Elt Ideal) S528x512 .f32)) z = v := by
  canon_tiles w hw using cover_at w1 w2 w4 w5 w3 w6 z
  all_goals
    obtain ⟨q, k, rfl⟩ : ∃ q k, w = ix2 q k := ⟨w 0, w 1, by idx_ext⟩
  · exact g1 q k hw0 hw1
  · exact g2 q k hw0 hw1
  · exact g3 q k hw0 hw1
  · exact g4 q k hw0 hw1
  · exact g5 q k hw0 hw1
  · exact g6 q k hw0 hw1

end Cert.Kernel4Ideal.Inproj

end
-- ==== Proof.InprojLeaves.lean ====
module

public import proofs.«01_k».proof.Proof.InprojScratch

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)

section Leaves

variable (c : Dev nD) (t : Fin cfg0.N)

/-- A point's own rows in the channels' scratch buffer. -/
theorem leaf_main (q : Fin 512) (n : ℕ) (hn : n < 5248) (C : Fin 2560) (s : ℕ) (hC : n = 2560 + C.val) (hs : s + 6 = t.val % 8 * 512 + (8 + q.val)) :
    (∑ x : Fin 1024, (k0_pay4 (iblk m c 5 t) (iblk m c 3 t) (iblk m c 4 t) (iblk m c 0 t) (ix2 q x) : EReal) * iblk m c 6 t (ix2 x ⟨n, hn⟩))
      = channel (wideOut m c) ⟨t.val / 8, by have := lt_of_lt_of_eq t.isLt N_0; omega⟩ s C := by
  rw [wide_eq m c t q ⟨1536 + C.val, by omega⟩ n hn (by show n = 1024 + (1536 + C.val); omega)]
  unfold channel
  rw [dif_pos (by omega)]
  exact congrArg (fun k => wideOut m c (ix3 _ k _)) (Fin.ext (by show t.val % 8 * 512 + q.val = s - 2; omega))

/-- The rows before them: zeros at the start of the sequence. -/
theorem leaf_top (q : Fin 8) (n : ℕ) (hn : n < 5248) (C : Fin 2560) (s : ℕ) (hC : n = 2560 + C.val) (hs : s + 6 = t.val % 8 * 512 + q.val) :
    (Scalar.select (Scalar.cmpi CmpIPredicate.sgt (BitVec.ofNat 32 (grid0.coords t 1 : ℕ)) 0#32)
      (∑ x : Fin 1024, (k0_pay8 (iblk m c 5 t) (k0_pay2 (iblk m c 3 t)) (k0_pay3 (iblk m c 4 t)) (k0_pay5 (iblk m c 1 t) (iblk m c 2 t))
        (k0_pay6 (iblk m c 1 t) (iblk m c 2 t)) k0_pay7 (ix2 ⟨q.val, by omega⟩ x) : EReal) * iblk m c 6 t (ix2 x ⟨n, hn⟩)) (0 : EReal) : EReal)
      = channel (wideOut m c) ⟨t.val / 8, by have := lt_of_lt_of_eq t.isLt N_0; omega⟩ s C := by
  rw [wide_before m c t q ⟨1536 + C.val, by omega⟩ n hn (by show n = 1024 + (1536 + C.val); omega), second]
  unfold channel
  show Scalar.select (IntOp.cmpi CmpIPredicate.sgt (BitVec.ofNat 32 (t.val % 8)) (BitVec.ofNat 32 0)) _ _ = _
  rw [WordCmp.cmpi_sgt_ofNat (by omega) (by omega), WordCmp.select_ofBool]
  by_cases h : 0 < t.val % 8
  · rw [if_pos (by simpa using h), dif_pos (by omega)]
    exact congrArg (fun k => wideOut m c (ix3 _ k _)) (Fin.ext (by show (64 * (t.val % 8) - 1) * 8 + q.val = s - 2; omega))
  · rw [if_neg (by simpa using h), dif_neg (by omega)]

/-- The rows after them: zeros at the end of the sequence. -/
theorem leaf_bottom (q : Fin 8) (n : ℕ) (hn : n < 5248) (C : Fin 2560) (s : ℕ) (hC : n = 2560 + C.val) (hs : s + 6 = t.val % 8 * 512 + (520 + q.val)) :
    (Scalar.select (Scalar.cmpi CmpIPredicate.slt (BitVec.ofNat 32 (grid0.coords t 1 : ℕ)) 7#32)
      (∑ x : Fin 1024, (k0_pay8 (iblk m c 5 t) (k0_pay2 (iblk m c 3 t)) (k0_pay3 (iblk m c 4 t)) (k0_pay5 (iblk m c 1 t) (iblk m c 2 t))
        (k0_pay6 (iblk m c 1 t) (iblk m c 2 t)) k0_pay7 (ix2 ⟨8 + q.val, by omega⟩ x) : EReal) * iblk m c 6 t (ix2 x ⟨n, hn⟩)) (0 : EReal) : EReal)
      = channel (wideOut m c) ⟨t.val / 8, by have := lt_of_lt_of_eq t.isLt N_0; omega⟩ s C := by
  rw [wide_after m c t q ⟨1536 + C.val, by omega⟩ n hn (by show n = 1024 + (1536 + C.val); omega), second]
  unfold channel
  show Scalar.select (IntOp.cmpi CmpIPredicate.slt (BitVec.ofNat 32 (t.val % 8)) (BitVec.ofNat 32 7)) _ _ = _
  rw [WordCmp.cmpi_slt_ofNat (by omega) (by omega), WordCmp.select_ofBool]
  by_cases h : t.val % 8 < 7
  · rw [if_pos (by simpa using h), dif_pos (by omega)]
    exact congrArg (fun k => wideOut m c (ix3 _ k _)) (Fin.ext (by show min (64 * (t.val % 8 + 1)) 511 * 8 + q.val = s - 2; omega))
  · rw [if_neg (by simpa using h), dif_neg (by omega)]

/-- Five taps and the bias, added as the kernel adds them, make the convolution's activated value. -/
theorem conv_close (b : Fin 8) (k : Fin 4096) (C : Fin 2560) (G : EReal)
    (hG : G = silu (convolved (extended (wideOut m c)) (m (c.tc.loc main_arg7)) (m (c.tc.loc main_arg8)) (ix3 b k C)))
    (w0 w1 w2 w3 w4 x0 x1 x2 x3 x4 β : EReal)
    (hw0 : w0 = m (c.tc.loc main_arg7) (ix2 0 C)) (hw1 : w1 = m (c.tc.loc main_arg7) (ix2 1 C)) (hw2 : w2 = m (c.tc.loc main_arg7) (ix2 2 C))
    (hw3 : w3 = m (c.tc.loc main_arg7) (ix2 3 C)) (hw4 : w4 = m (c.tc.loc main_arg7) (ix2 4 C)) (hβ : β = m (c.tc.loc main_arg8) (ix2 0 C))
    (hx0 : x0 = channel (wideOut m c) b (k.val + 0) C) (hx1 : x1 = channel (wideOut m c) b (k.val + 1) C)
    (hx2 : x2 = channel (wideOut m c) b (k.val + 2) C) (hx3 : x3 = channel (wideOut m c) b (k.val + 3) C)
    (hx4 : x4 = channel (wideOut m c) b (k.val + 4) C) :
    (w2 * x2 + (w3 * x3 + w4 * x4) + (w1 * x1 + w0 * x0) + β) * Ideal.logistic (w2 * x2 + (w3 * x3 + w4 * x4) + (w1 * x1 + w0 * x0) + β) = G := by
  rw [hG, convolved_at]
  simp only [extended_at]
  rw [show w2 * x2 + (w3 * x3 + w4 * x4) + (w1 * x1 + w0 * x0) + β = w0 * x0 + w1 * x1 + w2 * x2 + w3 * x3 + w4 * x4 + β from by abel]
  rw [hw0, hw1, hw2, hw3, hw4, hβ, hx0, hx1, hx2, hx3, hx4]
  rfl

end Leaves

end Cert.Kernel4Ideal.Inproj

end
-- ==== Proof.InprojPlain.lean ====
module

public import proofs.«01_k».proof.Proof.InprojLeaves

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)
set_option maxHeartbeats 1600000 in
/-- The rows against the Fourier mixer's first weight. -/
theorem final_p (c : Dev nD) : (dats m 0 c).arrAt 10 (cfgs 0).N = narrow (rowsOut m c) (m (c.tc.loc main_arg4)) := by
  refine (dats m 0 c).arrAt_eq_of_covers 10 _ (by decide +kernel) fun t hf y => ?_
  blk_simp
  have ht : t.val < 64 := lt_of_lt_of_eq t.isLt N_0
  rw [after0_10]; unfold outsAt0
  frame_out
  obtain ⟨r, d, hr, hd, hi⟩ : ∃ (r : Fin 512) (d : Fin 512), (y 1).val = r.val ∧ (y 2).val = d.val
      ∧ ((View.whole main_v5_0).slice (win0_10.rect t)).emb y = ix3 ⟨t.val / 8, by omega⟩ ⟨t.val % 8 * 512 + r.val, by omega⟩ d := by
    obtain ⟨r, d, rfl⟩ : ∃ r d, y = ix3 0 r d := ⟨y 1, y 2, by idx_ext⟩
    refine ⟨r, d, rfl, rfl, ?_⟩
    have e := idx t
    blk_ext [e]
  rw [hi]
  clear hi
  obtain ⟨G, hG⟩ : ∃ G : EReal, G = narrow (rowsOut m c) (m (c.tc.loc main_arg4)) (ix3 ⟨t.val / 8, by omega⟩ ⟨t.val % 8 * 512 + r.val, by omega⟩ d) := ⟨_, rfl⟩
  refine Eq.trans ?_ hG
  canon_tiles x hh
  case piece0 =>
    obtain ⟨a, r', d', rfl⟩ : ∃ a r' d', x = ix3 a r' d' := ⟨x 0, x 1, x 2, by idx_ext⟩
    obtain rfl : r' = r := Fin.ext (hr.symm.trans hh1).symm
    have h2 : d.val = 256 + d'.val := hd.symm.trans (hh2.trans (by first | rfl | exact (Nat.zero_add _).symm))
    clear hd hh0 hh1 hh2 x0_lt x1_lt x2_lt
    obtain ⟨n, hn⟩ := d
    dsimp only at h2
    rw [hG, ← first_eq m c t r' _ (256 + d'.val) (by have := hn; omega) (by dsimp only; omega)]
    clear hG hr
    open_payloads
    pointwise
  case piece1 =>
    obtain ⟨a, r', d', rfl⟩ : ∃ a r' d', x = ix3 a r' d' := ⟨x 0, x 1, x 2, by idx_ext⟩
    obtain rfl : r' = r := Fin.ext (hr.symm.trans hh1).symm
    have h2 : d.val = 0 + d'.val := hd.symm.trans (hh2.trans (by first | rfl | exact (Nat.zero_add _).symm))
    clear hd hh0 hh1 hh2 x0_lt x1_lt x2_lt
    obtain ⟨n, hn⟩ := d
    dsimp only at h2
    rw [hG, ← first_eq m c t r' _ (0 + d'.val) (by have := hn; omega) (by dsimp only; omega)]
    clear hG hr
    open_payloads
    pointwise

set_option maxHeartbeats 1600000 in
/-- The rows against the Fourier mixer's second weight. -/
theorem final_q (c : Dev nD) : (dats m 0 c).arrAt 11 (cfgs 0).N = narrow (rowsOut m c) (m (c.tc.loc main_arg5)) := by
  refine (dats m 0 c).arrAt_eq_of_covers 11 _ (by decide +kernel) fun t hf y => ?_
  blk_simp
  have ht : t.val < 64 := lt_of_lt_of_eq t.isLt N_0
  rw [after0_11]; unfold outsAt0
  frame_out
  obtain ⟨r, d, hr, hd, hi⟩ : ∃ (r : Fin 512) (d : Fin 512), (y 1).val = r.val ∧ (y 2).val = d.val
      ∧ ((View.whole main_v5_1).slice (win0_11.rect t)).emb y = ix3 ⟨t.val / 8, by omega⟩ ⟨t.val % 8 * 512 + r.val, by omega⟩ d := by
    obtain ⟨r, d, rfl⟩ : ∃ r d, y = ix3 0 r d := ⟨y 1, y 2, by idx_ext⟩
    refine ⟨r, d, rfl, rfl, ?_⟩
    have e := idx t
    blk_ext [e]
  rw [hi]
  clear hi
  obtain ⟨G, hG⟩ : ∃ G : EReal, G = narrow (rowsOut m c) (m (c.tc.loc main_arg5)) (ix3 ⟨t.val / 8, by omega⟩ ⟨t.val % 8 * 512 + r.val, by omega⟩ d) := ⟨_, rfl⟩
  refine Eq.trans ?_ hG
  canon_tiles x hh
  case piece0 =>
    obtain ⟨a, r', d', rfl⟩ : ∃ a r' d', x = ix3 a r' d' := ⟨x 0, x 1, x 2, by idx_ext⟩
    obtain rfl : r' = r := Fin.ext (hr.symm.trans hh1).symm
    have h2 : d.val = 256 + d'.val := hd.symm.trans (hh2.trans (by first | rfl | exact (Nat.zero_add _).symm))
    clear hd hh0 hh1 hh2 x0_lt x1_lt x2_lt
    obtain ⟨n, hn⟩ := d
    dsimp only at h2
    rw [hG, ← second_eq m c t r' _ (768 + d'.val) (by have := hn; omega) (by dsimp only; omega)]
    clear hG hr
    open_payloads
    pointwise
  case piece1 =>
    obtain ⟨a, r', d', rfl⟩ : ∃ a r' d', x = ix3 a r' d' := ⟨x 0, x 1, x 2, by idx_ext⟩
    obtain rfl : r' = r := Fin.ext (hr.symm.trans hh1).symm
    have h2 : d.val = 0 + d'.val := hd.symm.trans (hh2.trans (by first | rfl | exact (Nat.zero_add _).symm))
    clear hd hh0 hh1 hh2 x0_lt x1_lt x2_lt
    obtain ⟨n, hn⟩ := d
    dsimp only at h2
    rw [hG, ← second_eq m c t r' _ (512 + d'.val) (by have := hn; omega) (by dsimp only; omega)]
    clear hG hr
    open_payloads
    pointwise

set_option maxHeartbeats 1600000 in
/-- The gates. -/
theorem final_z (c : Dev nD) : (dats m 0 c).arrAt 12 (cfgs 0).N = gates (wideOut m c) := by
  refine (dats m 0 c).arrAt_eq_of_covers 12 _ (by decide +kernel) fun t hf y => ?_
  blk_simp
  have ht : t.val < 64 := lt_of_lt_of_eq t.isLt N_0
  rw [after0_12]; unfold outsAt0
  frame_out
  obtain ⟨r, d, hr, hd, hi⟩ : ∃ (r : Fin 512) (d : Fin 1536), (y 1).val = r.val ∧ (y 2).val = d.val
      ∧ ((View.whole main_v5_2).slice (win0_12.rect t)).emb y = ix3 ⟨t.val / 8, by omega⟩ ⟨t.val % 8 * 512 + r.val, by omega⟩ d := by
    obtain ⟨r, d, rfl⟩ : ∃ r d, y = ix3 0 r d := ⟨y 1, y 2, by idx_ext⟩
    refine ⟨r, d, rfl, rfl, ?_⟩
    have e := idx t
    blk_ext [e]
  rw [hi]
  clear hi
  obtain ⟨G, hG⟩ : ∃ G : EReal, G = gates (wideOut m c) (ix3 ⟨t.val / 8, by omega⟩ ⟨t.val % 8 * 512 + r.val, by omega⟩ d) := ⟨_, rfl⟩
  refine Eq.trans ?_ hG
  rw [gates_at] at hG
  canon_tiles x hh
  case piece0 =>
    obtain ⟨a, r', d', rfl⟩ : ∃ a r' d', x = ix3 a r' d' := ⟨x 0, x 1, x 2, by idx_ext⟩
    obtain rfl : r' = r := Fin.ext (hr.symm.trans hh1).symm
    have h2 : d.val = 1280 + d'.val := hd.symm.trans (hh2.trans (by first | rfl | exact (Nat.zero_add _).symm))
    clear hd hh0 hh1 hh2 x0_lt x1_lt x2_lt
    obtain ⟨n, hn⟩ := d
    dsimp only at h2
    rw [hG, ← wide_eq m c t r' ⟨n, by have := hn; omega⟩ (2304 + d'.val) (by have := hn; omega) (by dsimp only; omega)]
    clear hG hr
    open_payloads
    pointwise
  case piece1 =>
    obtain ⟨a, r', d', rfl⟩ : ∃ a r' d', x = ix3 a r' d' := ⟨x 0, x 1, x 2, by idx_ext⟩
    obtain rfl : r' = r := Fin.ext (hr.symm.trans hh1).symm
    have h2 : d.val = 1024 + d'.val := hd.symm.trans (hh2.trans (by first | rfl | exact (Nat.zero_add _).symm))
    clear hd hh0 hh1 hh2 x0_lt x1_lt x2_lt
    obtain ⟨n, hn⟩ := d
    dsimp only at h2
    rw [hG, ← wide_eq m c t r' ⟨n, by have := hn; omega⟩ (2048 + d'.val) (by have := hn; omega) (by dsimp only; omega)]
    clear hG hr
    open_payloads
    pointwise
  case piece2 =>
    obtain ⟨a, r', d', rfl⟩ : ∃ a r' d', x = ix3 a r' d' := ⟨x 0, x 1, x 2, by idx_ext⟩
    obtain rfl : r' = r := Fin.ext (hr.symm.trans hh1).symm
    have h2 : d.val = 768 + d'.val := hd.symm.trans (hh2.trans (by first | rfl | exact (Nat.zero_add _).symm))
    clear hd hh0 hh1 hh2 x0_lt x1_lt x2_lt
    obtain ⟨n, hn⟩ := d
    dsimp only at h2
    rw [hG, ← wide_eq m c t r' ⟨n, by have := hn; omega⟩ (1792 + d'.val) (by have := hn; omega) (by dsimp only; omega)]
    clear hG hr
    open_payloads
    pointwise
  case piece3 =>
    obtain ⟨a, r', d', rfl⟩ : ∃ a r' d', x = ix3 a r' d' := ⟨x 0, x 1, x 2, by idx_ext⟩
    obtain rfl : r' = r := Fin.ext (hr.symm.trans hh1).symm
    have h2 : d.val = 512 + d'.val := hd.symm.trans (hh2.trans (by first | rfl | exact (Nat.zero_add _).symm))
    clear hd hh0 hh1 hh2 x0_lt x1_lt x2_lt
    obtain ⟨n, hn⟩ := d
    dsimp only at h2
    rw [hG, ← wide_eq m c t r' ⟨n, by have := hn; omega⟩ (1536 + d'.val) (by have := hn; omega) (by dsimp only; omega)]
    clear hG hr
    open_payloads
    pointwise
  case piece4 =>
    obtain ⟨a, r', d', rfl⟩ : ∃ a r' d', x = ix3 a r' d' := ⟨x 0, x 1, x 2, by idx_ext⟩
    obtain rfl : r' = r := Fin.ext (hr.symm.trans hh1).symm
    have h2 : d.val = 256 + d'.val := hd.symm.trans (hh2.trans (by first | rfl | exact (Nat.zero_add _).symm))
    clear hd hh0 hh1 hh2 x0_lt x1_lt x2_lt
    obtain ⟨n, hn⟩ := d
    dsimp only at h2
    rw [hG, ← wide_eq m c t r' ⟨n, by have := hn; omega⟩ (1280 + d'.val) (by have := hn; omega) (by dsimp only; omega)]
    clear hG hr
    open_payloads
    pointwise
  case piece5 =>
    obtain ⟨a, r', d', rfl⟩ : ∃ a r' d', x = ix3 a r' d' := ⟨x 0, x 1, x 2, by idx_ext⟩
    obtain rfl : r' = r := Fin.ext (hr.symm.trans hh1).symm
    have h2 : d.val = 0 + d'.val := hd.symm.trans (hh2.trans (by first | rfl | exact (Nat.zero_add _).symm))
    clear hd hh0 hh1 hh2 x0_lt x1_lt x2_lt
    obtain ⟨n, hn⟩ := d
    dsimp only at h2
    rw [hG, ← wide_eq m c t r' ⟨n, by have := hn; omega⟩ (1024 + d'.val) (by have := hn; omega) (by dsimp only; omega)]
    clear hG hr
    open_payloads
    pointwise

end Cert.Kernel4Ideal.Inproj

end
-- ==== Proof.InprojRun.lean ====
module

public import proofs.«01_k».proof.Proof.InprojRef
public import Idealize.ShloMosaic.Lib.StableHlo.RunRead
public import Idealize.ShloMosaic.Lib.Claim
public import Idealize.ShloMosaic.Adequacy
public import Idealize.ShloMosaic.Init

@[expose] public section

set_option maxRecDepth 100000

noncomputable section

namespace Cert.InprojRun

open Idealize.ShloMosaic Idealize.SL.Sem Idealize.ShloMosaic.StableHlo
open Cert.Reference4Ideal Cert.Reference4Ideal.Gen Cert.InprojRef

set_option maxHeartbeats 4000000 in
/-- The reference's six results over its arguments. -/
theorem results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem (c.tc.loc main_v75) = narrow (rows (m (c.tc.loc main_arg0)) (m (c.tc.loc main_arg1)) (m (c.tc.loc main_arg2)) (m (c.tc.loc main_arg3))) (m (c.tc.loc main_arg4))
      ∧ r.2.mem (c.tc.loc main_v76) = narrow (rows (m (c.tc.loc main_arg0)) (m (c.tc.loc main_arg1)) (m (c.tc.loc main_arg2)) (m (c.tc.loc main_arg3))) (m (c.tc.loc main_arg5))
      ∧ r.2.mem (c.tc.loc main_v77) = gates (wide (rows (m (c.tc.loc main_arg0)) (m (c.tc.loc main_arg1)) (m (c.tc.loc main_arg2)) (m (c.tc.loc main_arg3))) (m (c.tc.loc main_arg6)))
      ∧ r.2.mem (c.tc.loc main_v78) = inputs (convolved (extended (wide (rows (m (c.tc.loc main_arg0)) (m (c.tc.loc main_arg1)) (m (c.tc.loc main_arg2)) (m (c.tc.loc main_arg3))) (m (c.tc.loc main_arg6)))) (m (c.tc.loc main_arg7)) (m (c.tc.loc main_arg8)))
      ∧ r.2.mem (c.tc.loc main_v79) = coefficients (convolved (extended (wide (rows (m (c.tc.loc main_arg0)) (m (c.tc.loc main_arg1)) (m (c.tc.loc main_arg2)) (m (c.tc.loc main_arg3))) (m (c.tc.loc main_arg6)))) (m (c.tc.loc main_arg7)) (m (c.tc.loc main_arg8)))
      ∧ r.2.mem (c.tc.loc main_v74) = steps (raw (wide (rows (m (c.tc.loc main_arg0)) (m (c.tc.loc main_arg1)) (m (c.tc.loc main_arg2)) (m (c.tc.loc main_arg3))) (m (c.tc.loc main_arg6))) (m (c.tc.loc main_arg9)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) := by
  refine θ_run_mono (run_hlo _ _ (by hlo_seq) (by decide) (by decide) (by simp)
      (by intro _ h; (repeat (cases h with | head => rfl | tail _ h => ?_)); exact nomatch h) _ _) ?_
  intro r hr c
  refine ⟨(hr c main_v75).trans ?_, (hr c main_v76).trans ?_, (hr c main_v77).trans ?_, (hr c main_v78).trans ?_,
    (hr c main_v79).trans ?_, (hr c main_v74).trans ?_,
    (hr c main_arg0).trans ?_, (hr c main_arg1).trans ?_, (hr c main_arg2).trans ?_, (hr c main_arg3).trans ?_, (hr c main_arg4).trans ?_, (hr c main_arg5).trans ?_, (hr c main_arg6).trans ?_, (hr c main_arg7).trans ?_, (hr c main_arg8).trans ?_, (hr c main_arg9).trans ?_⟩
  · clear hr
    after_reads_simp
  · clear hr
    after_reads_simp
  · clear hr
    after_reads_simp
  · clear hr
    after_reads_simp
    simp only [Fin.isValue, Matrix.cons_val]
    generalize h25 : upto _ _ _ (Proc.devRef .tc main_v25) = x25
    generalize h26 : upto _ _ _ (Proc.devRef .tc main_v26) = x26
    generalize h23 : upto _ _ _ (Proc.devRef .tc main_v23) = x23
    have e25 : x25 = broadcastInDim S8x2x2560 ![] bcast_S_S8x2x2560 (constant (F := Ideal) S_ .f32 0#32) := by
      rw [← h25]
      after_reads_simp
    have e26 : x26 = broadcastInDim S8x2x2560 ![] bcast_S_S8x2x2560 (constant (F := Ideal) S_ .f32 0#32) := by
      rw [← h26]
      after_reads_simp
    have e23 : x23 = extractStridedSlice S8x4096x2560 ![0, 0, 1536] (wide (rows (m (c.tc.loc main_arg0)) (m (c.tc.loc main_arg1)) (m (c.tc.loc main_arg2)) (m (c.tc.loc main_arg3))) (m (c.tc.loc main_arg6))) slices_S8x4096x4144_S8x4096x2560_0_0_1536 := by
      rw [← h23]
      after_reads_simp
    clear h25 h26 h23
    subst e25 e26 e23
    try simp only [launchContents_devRef]
    first | with_reducible rfl | rfl
  · clear hr
    after_reads_simp
    simp only [Fin.isValue, Matrix.cons_val]
    generalize h25 : upto _ _ _ (Proc.devRef .tc main_v25) = x25
    generalize h26 : upto _ _ _ (Proc.devRef .tc main_v26) = x26
    generalize h23 : upto _ _ _ (Proc.devRef .tc main_v23) = x23
    have e25 : x25 = broadcastInDim S8x2x2560 ![] bcast_S_S8x2x2560 (constant (F := Ideal) S_ .f32 0#32) := by
      rw [← h25]
      after_reads_simp
    have e26 : x26 = broadcastInDim S8x2x2560 ![] bcast_S_S8x2x2560 (constant (F := Ideal) S_ .f32 0#32) := by
      rw [← h26]
      after_reads_simp
    have e23 : x23 = extractStridedSlice S8x4096x2560 ![0, 0, 1536] (wide (rows (m (c.tc.loc main_arg0)) (m (c.tc.loc main_arg1)) (m (c.tc.loc main_arg2)) (m (c.tc.loc main_arg3))) (m (c.tc.loc main_arg6))) slices_S8x4096x4144_S8x4096x2560_0_0_1536 := by
      rw [← h23]
      after_reads_simp
    clear h25 h26 h23
    subst e25 e26 e23
    try simp only [launchContents_devRef]
    first | with_reducible rfl | rfl
  · clear hr
    after_reads_simp
    generalize h71 : upto _ _ _ (Proc.devRef .tc main_v71) = x71
    generalize h72 : upto _ _ _ (Proc.devRef .tc main_v72) = x72
    have e71 : x71 = addf (extractStridedSlice S8x4096x48 ![0, 0, 4096] (wide (rows (m (c.tc.loc main_arg0)) (m (c.tc.loc main_arg1)) (m (c.tc.loc main_arg2)) (m (c.tc.loc main_arg3))) (m (c.tc.loc main_arg6))) slices_S8x4096x4144_S8x4096x48_0_0_4096)
        (broadcastInDim S8x4096x48 ![0, 1, 2] bcast_S1x1x48_S8x4096x48_0_1_2
          (broadcastInDim S1x1x48 ![2] bcast_S48_S1x1x48_2 (shapeCast S48 (m (c.tc.loc main_arg9)) shapeCasts_S2x24_S48))) := by
      rw [← h71]
      after_reads_simp
      try simp only [launchContents_devRef]
      try rfl
    have e72 : x72 = broadcastInDim S8x4096x80 ![] bcast_S_S8x4096x80 (constant (F := Ideal) S_ .f32 0#32) := by
      rw [← h72]
      after_reads_simp
    clear h71 h72
    subst e71 e72
    try simp only [launchContents_devRef]
    first | with_reducible rfl | rfl
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]
  · clear hr
    after_reads_simp
    try simp only [launchContents_devRef]

end Cert.InprojRun

end
-- ==== Proof.InprojSteps.lean ====
module

public import proofs.«01_k».proof.Proof.InprojLeaves

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)
set_option maxHeartbeats 1600000 in
/-- The steps' softplus. -/
theorem final_dt (c : Dev nD) : (dats m 0 c).arrAt 15 (cfgs 0).N = steps (raw (wideOut m c) (m (c.tc.loc main_arg9))) := by
  refine (dats m 0 c).arrAt_eq_of_covers 15 _ (by decide +kernel) fun t hf y => ?_
  blk_simp
  have ht : t.val < 64 := lt_of_lt_of_eq t.isLt N_0
  rw [after0_15]; unfold outsAt0
  frame_out
  obtain ⟨r, e, rfl⟩ : ∃ r e, y = ix3 0 r e := ⟨y 1, y 2, by idx_ext⟩
  have hi : ((View.whole main_v5_5).slice (win0_15.rect t)).emb (ix3 0 r e) = ix3 ⟨t.val / 8, by omega⟩ ⟨t.val % 8 * 512 + r.val, by omega⟩ e := by
    have e := idx t
    blk_ext [e]
  rw [hi]
  clear hi
  obtain ⟨G, hG⟩ : ∃ G : EReal, G = steps (raw (wideOut m c) (m (c.tc.loc main_arg9))) (ix3 ⟨t.val / 8, by omega⟩ ⟨t.val % 8 * 512 + r.val, by omega⟩ e) := ⟨_, rfl⟩
  refine Eq.trans ?_ hG
  rw [Cert.Kernel4Ideal.Body.steps_at, hG, Cert.InprojRef.steps_at, raw_at]
  refine congrArg softplus ?_
  have hw : ∀ x : Fin 1024, (View.ld (iblk m c 6 t) (Rect.unit ![0, 5120] ![1024, 128] inb_S1024x5248_S1024x128_0_5120) (ix2 x e) : EReal)
      = iblk m c 6 t (ix2 x ⟨5120 + e.val, by omega⟩) := by
    intro x
    pointwise
  simp only [hw]
  rw [lanes_at, bias_in]
  unfold lanes
  by_cases h : e.val < 48
  · rw [dif_pos h, dif_pos h, wide_eq m c t r ⟨4096 + e.val, by omega⟩ _ _ (by dsimp only; omega)]
  · rw [dif_neg h, dif_neg h, add_zero]
    refine Finset.sum_eq_zero fun x _ => ?_
    rw [weight_at, zero_in m c x _ _ (by omega), mul_zero]

end Cert.Kernel4Ideal.Inproj

end
-- ==== Proof.InprojInputs.lean ====
module

public import proofs.«01_k».proof.Proof.InprojLeaves

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)
set_option maxHeartbeats 6400000 in
/-- The scan's inputs: the convolution's first channels, activated. -/
theorem final_xs (c : Dev nD) : (dats m 0 c).arrAt 13 (cfgs 0).N
    = inputs (convolved (extended (wideOut m c)) (m (c.tc.loc main_arg7)) (m (c.tc.loc main_arg8))) := by
  refine (dats m 0 c).arrAt_eq_of_covers 13 _ (by decide +kernel) fun t hf y => ?_
  blk_simp
  have ht : t.val < 64 := lt_of_lt_of_eq t.isLt N_0
  rw [after0_13]; unfold outsAt0
  frame_out
  obtain ⟨r, d, hr, hd, hi⟩ : ∃ (r : Fin 512) (d : Fin 1536), (y 1).val = r.val ∧ (y 2).val = d.val
      ∧ ((View.whole main_v5_3).slice (win0_13.rect t)).emb y = ix3 ⟨t.val / 8, by omega⟩ ⟨t.val % 8 * 512 + r.val, by omega⟩ d := by
    obtain ⟨r, d, rfl⟩ : ∃ r d, y = ix3 0 r d := ⟨y 1, y 2, by idx_ext⟩
    refine ⟨r, d, rfl, rfl, ?_⟩
    have e := idx t
    blk_ext [e]
  rw [hi]
  clear hi hf
  rw [inputs_at]
  obtain ⟨k, hk, hk'⟩ : ∃ k : Fin 4096, k.val = t.val % 8 * 512 + r.val ∧ k = ⟨t.val % 8 * 512 + r.val, by omega⟩ := ⟨_, rfl, rfl⟩
  obtain ⟨b, hb⟩ : ∃ b : Fin 8, b = ⟨t.val / 8, Nat.div_lt_of_lt_mul ht⟩ := ⟨_, rfl⟩
  obtain ⟨C, hC, hC'⟩ : ∃ C : Fin 2560, C.val = d.val ∧ C = ⟨d.val, by omega⟩ := ⟨_, rfl, rfl⟩
  rw [← hb, ← hk', ← hC']
  clear hk' hC'
  obtain ⟨G, hG⟩ : ∃ G : EReal, G = silu (convolved (extended (wideOut m c)) (m (c.tc.loc main_arg7)) (m (c.tc.loc main_arg8)) (ix3 b k C)) :=
    ⟨_, rfl⟩
  refine Eq.trans ?_ hG
  canon_tiles x hh
  case piece0 =>
    generalize hX : View.readCov (Val := Elt Ideal) _ _ _ = X
    obtain ⟨a, r', d', rfl⟩ : ∃ a r' d', x = ix3 a r' d' := ⟨x 0, x 1, x 2, by idx_ext⟩
    have h1 : r.val = 384 + r'.val := hr.symm.trans (hh1.trans (by first | rfl | exact (Nat.zero_add _).symm))
    have h2 : C.val = 1024 + d'.val := by
      have h3 : d.val = 1024 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 384 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 384 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3840 + p.val) (by omega) C _ (by omega) (by omega)]
        clear hv
        open_payloads
        pointwise
      · rw [hv, ← leaf_top m c t q (3840 + p.val) (by omega) C _ (by omega) (by omega)]
        clear hv
        open_payloads
        pointwise
      · rw [hv, ← leaf_main m c t q (3840 + p.val) (by omega) C _ (by omega) (by omega)]
        clear hv
        open_payloads
        pointwise
      · rw [hv, ← leaf_bottom m c t q (3584 + p.val) (by omega) C _ (by omega) (by omega)]
        clear hv
        open_payloads
        pointwise
      · rw [hv, ← leaf_top m c t q (3584 + p.val) (by omega) C _ (by omega) (by omega)]
        clear hv
        open_payloads
        pointwise
      · rw [hv, ← leaf_main m c t q (3584 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece1 =>
    generalize hX : View.readCov (Val := Elt Ideal) _ _ _ = X
    obtain ⟨a, r', d', rfl⟩ : ∃ a r' d', x = ix3 a r' d' := ⟨x 0, x 1, x 2, by idx_ext⟩
    have h1 : r.val = 256 + r'.val := hr.symm.trans (hh1.trans (by first | rfl | exact (Nat.zero_add _).symm))
    have h2 : C.val = 1024 + d'.val := by
      have h3 : d.val = 1024 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 256 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 256 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3840 + p.val) (by omega) C _ (by omega) (by omega)]
        clear hv
        open_payloads
        pointwise
      · rw [hv, ← leaf_top m c t q (3840 + p.val) (by omega) C _ (by omega) (by omega)]
        clear hv
        open_payloads
        pointwise
      · rw [hv, ← leaf_main m c t q (3840 + p.val) (by omega) C _ (by omega) (by omega)]
        clear hv
        open_payloads
        pointwise
      · rw [hv, ← leaf_bottom m c t q (3584 + p.val) (by omega) C _ (by omega) (by omega)]
        clear hv
        open_payloads
        pointwise
      · rw [hv, ← leaf_top m c t q (3584 + p.val) (by omega) C _ (by omega) (by omega)]
        clear hv
        open_payloads
        pointwise
      · rw [hv, ← leaf_main m c t q (3584 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece2 =>
    generalize hX : View.readCov (Val := Elt Ideal) _ _ _ = X
    obtain ⟨a, r', d', rfl⟩ : ∃ a r' d', x = ix3 a r' d' := ⟨x 0, x 1, x 2, by idx_ext⟩
    have h1 : r.val = 128 + r'.val := hr.symm.trans (hh1.trans (by first | rfl | exact (Nat.zero_add _).symm))
    have h2 : C.val = 1024 + d'.val := by
      have h3 : d.val = 1024 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 128 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 128 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3840 + p.val) (by omega) C _ (by omega) (by omega)]
        clear hv
        open_payloads
        pointwise
      · rw [hv, ← leaf_top m c t q (3840 + p.val) (by omega) C _ (by omega) (by omega)]
        clear hv
        open_payloads
        pointwise
      · rw [hv, ← leaf_main m c t q (3840 + p.val) (by omega) C _ (by omega) (by omega)]
        clear hv
        open_payloads
        pointwise
      · rw [hv, ← leaf_bottom m c t q (3584 + p.val) (by omega) C _ (by omega) (by omega)]
        clear hv
        open_payloads
        pointwise
      · rw [hv, ← leaf_top m c t q (3584 + p.val) (by omega) C _ (by omega) (by omega)]
        clear hv
        open_payloads
        pointwise
      · rw [hv, ← leaf_main m c t q (3584 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece3 =>
    generalize hX : View.readCov (Val := Elt Ideal) _ _ _ = X
    obtain ⟨a, r', d', rfl⟩ : ∃ a r' d', x = ix3 a r' d' := ⟨x 0, x 1, x 2, by idx_ext⟩
    have h1 : r.val = 0 + r'.val := hr.symm.trans (hh1.trans (by first | rfl | exact (Nat.zero_add _).symm))
    have h2 : C.val = 1024 + d'.val := by
      have h3 : d.val = 1024 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 0 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 0 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3840 + p.val) (by omega) C _ (by omega) (by omega)]
        clear hv
        open_payloads
        pointwise
      · rw [hv, ← leaf_top m c t q (3840 + p.val) (by omega) C _ (by omega) (by omega)]
        clear hv
        open_payloads
        pointwise
      · rw [hv, ← leaf_main m c t q (3840 + p.val) (by omega) C _ (by omega) (by omega)]
        clear hv
        open_payloads
        pointwise
      · rw [hv, ← leaf_bottom m c t q (3584 + p.val) (by omega) C _ (by omega) (by omega)]
        clear hv
        open_payloads
        pointwise
      · rw [hv, ← leaf_top m c t q (3584 + p.val) (by omega) C _ (by omega) (by omega)]
        clear hv
        open_payloads
        pointwise
      · rw [hv, ← leaf_main m c t q (3584 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece4 =>
    generalize hX : View.readCov (Val := Elt Ideal) _ _ _ = X
    obtain ⟨a, r', d', rfl⟩ : ∃ a r' d', x = ix3 a r' d' := ⟨x 0, x 1, x 2, by idx_ext⟩
    have h1 : r.val = 384 + r'.val := hr.symm.trans (hh1.trans (by first | rfl | exact (Nat.zero_add _).symm))
    have h2 : C.val = 512 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 384 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 384 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3328 + p.val) (by omega) C _ (by omega) (by omega)]
        clear hv
        open_payloads
        pointwise
      · rw [hv, ← leaf_top m c t q (3328 + p.val) (by omega) C _ (by omega) (by omega)]
        clear hv
        open_payloads
        pointwise
      · rw [hv, ← leaf_main m c t q (3328 + p.val) (by omega) C _ (by omega) (by omega)]
        clear hv
        open_payloads
        pointwise
      · rw [hv, ← leaf_bottom m c t q (3072 + p.val) (by omega) C _ (by omega) (by omega)]
        clear hv
        open_payloads
        pointwise
      · rw [hv, ← leaf_top m c t q (3072 + p.val) (by omega) C _ (by omega) (by omega)]
        clear hv
        open_payloads
        pointwise
      · rw [hv, ← leaf_main m c t q (3072 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece5 =>
    generalize hX : View.readCov (Val := Elt Ideal) _ _ _ = X
    obtain ⟨a, r', d', rfl⟩ : ∃ a r' d', x = ix3 a r' d' := ⟨x 0, x 1, x 2, by idx_ext⟩
    have h1 : r.val = 256 + r'.val := hr.symm.trans (hh1.trans (by first | rfl | exact (Nat.zero_add _).symm))
    have h2 : C.val = 512 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 256 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 256 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3328 + p.val) (by omega) C _ (by omega) (by omega)]
        clear hv
        open_payloads
        pointwise
      · rw [hv, ← leaf_top m c t q (3328 + p.val) (by omega) C _ (by omega) (by omega)]
        clear hv
        open_payloads
        pointwise
      · rw [hv, ← leaf_main m c t q (3328 + p.val) (by omega) C _ (by omega) (by omega)]
        clear hv
        open_payloads
        pointwise
      · rw [hv, ← leaf_bottom m c t q (3072 + p.val) (by omega) C _ (by omega) (by omega)]
        clear hv
        open_payloads
        pointwise
      · rw [hv, ← leaf_top m c t q (3072 + p.val) (by omega) C _ (by omega) (by omega)]
        clear hv
        open_payloads
        pointwise
      · rw [hv, ← leaf_main m c t q (3072 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece6 =>
    generalize hX : View.readCov (Val := Elt Ideal) _ _ _ = X
    obtain ⟨a, r', d', rfl⟩ : ∃ a r' d', x = ix3 a r' d' := ⟨x 0, x 1, x 2, by idx_ext⟩
    have h1 : r.val = 128 + r'.val := hr.symm.trans (hh1.trans (by first | rfl | exact (Nat.zero_add _).symm))
    have h2 : C.val = 512 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 128 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 128 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3328 + p.val) (by omega) C _ (by omega) (by omega)]
        clear hv
        open_payloads
        pointwise
      · rw [hv, ← leaf_top m c t q (3328 + p.val) (by omega) C _ (by omega) (by omega)]
        clear hv
        open_payloads
        pointwise
      · rw [hv, ← leaf_main m c t q (3328 + p.val) (by omega) C _ (by omega) (by omega)]
        clear hv
        open_payloads
        pointwise
      · rw [hv, ← leaf_bottom m c t q (3072 + p.val) (by omega) C _ (by omega) (by omega)]
        clear hv
        open_payloads
        pointwise
      · rw [hv, ← leaf_top m c t q (3072 + p.val) (by omega) C _ (by omega) (by omega)]
        clear hv
        open_payloads
        pointwise
      · rw [hv, ← leaf_main m c t q (3072 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece7 =>
    generalize hX : View.readCov (Val := Elt Ideal) _ _ _ = X
    obtain ⟨a, r', d', rfl⟩ : ∃ a r' d', x = ix3 a r' d' := ⟨x 0, x 1, x 2, by idx_ext⟩
    have h1 : r.val = 0 + r'.val := hr.symm.trans (hh1.trans (by first | rfl | exact (Nat.zero_add _).symm))
    have h2 : C.val = 512 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 0 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 0 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (3328 + p.val) (by omega) C _ (by omega) (by omega)]
        clear hv
        open_payloads
        pointwise
      · rw [hv, ← leaf_top m c t q (3328 + p.val) (by omega) C _ (by omega) (by omega)]
        clear hv
        open_payloads
        pointwise
      · rw [hv, ← leaf_main m c t q (3328 + p.val) (by omega) C _ (by omega) (by omega)]
        clear hv
        open_payloads
        pointwise
      · rw [hv, ← leaf_bottom m c t q (3072 + p.val) (by omega) C _ (by omega) (by omega)]
        clear hv
        open_payloads
        pointwise
      · rw [hv, ← leaf_top m c t q (3072 + p.val) (by omega) C _ (by omega) (by omega)]
        clear hv
        open_payloads
        pointwise
      · rw [hv, ← leaf_main m c t q (3072 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece8 =>
    generalize hX : View.readCov (Val := Elt Ideal) _ _ _ = X
    obtain ⟨a, r', d', rfl⟩ : ∃ a r' d', x = ix3 a r' d' := ⟨x 0, x 1, x 2, by idx_ext⟩
    have h1 : r.val = 384 + r'.val := hr.symm.trans (hh1.trans (by first | rfl | exact (Nat.zero_add _).symm))
    have h2 : C.val = 0 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 384 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 384 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (2816 + p.val) (by omega) C _ (by omega) (by omega)]
        clear hv
        open_payloads
        pointwise
      · rw [hv, ← leaf_top m c t q (2816 + p.val) (by omega) C _ (by omega) (by omega)]
        clear hv
        open_payloads
        pointwise
      · rw [hv, ← leaf_main m c t q (2816 + p.val) (by omega) C _ (by omega) (by omega)]
        clear hv
        open_payloads
        pointwise
      · rw [hv, ← leaf_bottom m c t q (2560 + p.val) (by omega) C _ (by omega) (by omega)]
        clear hv
        open_payloads
        pointwise
      · rw [hv, ← leaf_top m c t q (2560 + p.val) (by omega) C _ (by omega) (by omega)]
        clear hv
        open_payloads
        pointwise
      · rw [hv, ← leaf_main m c t q (2560 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece9 =>
    generalize hX : View.readCov (Val := Elt Ideal) _ _ _ = X
    obtain ⟨a, r', d', rfl⟩ : ∃ a r' d', x = ix3 a r' d' := ⟨x 0, x 1, x 2, by idx_ext⟩
    have h1 : r.val = 256 + r'.val := hr.symm.trans (hh1.trans (by first | rfl | exact (Nat.zero_add _).symm))
    have h2 : C.val = 0 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 256 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 256 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (2816 + p.val) (by omega) C _ (by omega) (by omega)]
        clear hv
        open_payloads
        pointwise
      · rw [hv, ← leaf_top m c t q (2816 + p.val) (by omega) C _ (by omega) (by omega)]
        clear hv
        open_payloads
        pointwise
      · rw [hv, ← leaf_main m c t q (2816 + p.val) (by omega) C _ (by omega) (by omega)]
        clear hv
        open_payloads
        pointwise
      · rw [hv, ← leaf_bottom m c t q (2560 + p.val) (by omega) C _ (by omega) (by omega)]
        clear hv
        open_payloads
        pointwise
      · rw [hv, ← leaf_top m c t q (2560 + p.val) (by omega) C _ (by omega) (by omega)]
        clear hv
        open_payloads
        pointwise
      · rw [hv, ← leaf_main m c t q (2560 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece10 =>
    generalize hX : View.readCov (Val := Elt Ideal) _ _ _ = X
    obtain ⟨a, r', d', rfl⟩ : ∃ a r' d', x = ix3 a r' d' := ⟨x 0, x 1, x 2, by idx_ext⟩
    have h1 : r.val = 128 + r'.val := hr.symm.trans (hh1.trans (by first | rfl | exact (Nat.zero_add _).symm))
    have h2 : C.val = 0 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 128 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 128 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (2816 + p.val) (by omega) C _ (by omega) (by omega)]
        clear hv
        open_payloads
        pointwise
      · rw [hv, ← leaf_top m c t q (2816 + p.val) (by omega) C _ (by omega) (by omega)]
        clear hv
        open_payloads
        pointwise
      · rw [hv, ← leaf_main m c t q (2816 + p.val) (by omega) C _ (by omega) (by omega)]
        clear hv
        open_payloads
        pointwise
      · rw [hv, ← leaf_bottom m c t q (2560 + p.val) (by omega) C _ (by omega) (by omega)]
        clear hv
        open_payloads
        pointwise
      · rw [hv, ← leaf_top m c t q (2560 + p.val) (by omega) C _ (by omega) (by omega)]
        clear hv
        open_payloads
        pointwise
      · rw [hv, ← leaf_main m c t q (2560 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece11 =>
    generalize hX : View.readCov (Val := Elt Ideal) _ _ _ = X
    obtain ⟨a, r', d', rfl⟩ : ∃ a r' d', x = ix3 a r' d' := ⟨x 0, x 1, x 2, by idx_ext⟩
    have h1 : r.val = 0 + r'.val := hr.symm.trans (hh1.trans (by first | rfl | exact (Nat.zero_add _).symm))
    have h2 : C.val = 0 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 0 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 0 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (2816 + p.val) (by omega) C _ (by omega) (by omega)]
        clear hv
        open_payloads
        pointwise
      · rw [hv, ← leaf_top m c t q (2816 + p.val) (by omega) C _ (by omega) (by omega)]
        clear hv
        open_payloads
        pointwise
      · rw [hv, ← leaf_main m c t q (2816 + p.val) (by omega) C _ (by omega) (by omega)]
        clear hv
        open_payloads
        pointwise
      · rw [hv, ← leaf_bottom m c t q (2560 + p.val) (by omega) C _ (by omega) (by omega)]
        clear hv
        open_payloads
        pointwise
      · rw [hv, ← leaf_top m c t q (2560 + p.val) (by omega) C _ (by omega) (by omega)]
        clear hv
        open_payloads
        pointwise
      · rw [hv, ← leaf_main m c t q (2560 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega

end Cert.Kernel4Ideal.Inproj

end
-- ==== Proof.InprojCoefficients.lean ====
module

public import proofs.«01_k».proof.Proof.InprojLeaves

@[expose] public section

set_option maxRecDepth 16384

noncomputable section

namespace Cert.Kernel4Ideal.Inproj

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen
open Cert.InprojRef Cert.Kernel4Ideal.Body

variable (m : (ℓ : Loc nD τ sig) → Buf (Elt Ideal) ℓ)
set_option maxHeartbeats 6400000 in
/-- The scan's coefficients: the convolution's later channels, activated. -/
theorem final_bc (c : Dev nD) : (dats m 0 c).arrAt 14 (cfgs 0).N
    = coefficients (convolved (extended (wideOut m c)) (m (c.tc.loc main_arg7)) (m (c.tc.loc main_arg8))) := by
  refine (dats m 0 c).arrAt_eq_of_covers 14 _ (by decide +kernel) fun t hf y => ?_
  blk_simp
  have ht : t.val < 64 := lt_of_lt_of_eq t.isLt N_0
  rw [after0_14]; unfold outsAt0
  frame_out
  obtain ⟨r, d, hr, hd, hi⟩ : ∃ (r : Fin 512) (d : Fin 1024), (y 1).val = r.val ∧ (y 2).val = d.val
      ∧ ((View.whole main_v5_4).slice (win0_14.rect t)).emb y = ix3 ⟨t.val / 8, by omega⟩ ⟨t.val % 8 * 512 + r.val, by omega⟩ d := by
    obtain ⟨r, d, rfl⟩ : ∃ r d, y = ix3 0 r d := ⟨y 1, y 2, by idx_ext⟩
    refine ⟨r, d, rfl, rfl, ?_⟩
    have e := idx t
    blk_ext [e]
  rw [hi]
  clear hi hf
  rw [coefficients_at]
  obtain ⟨k, hk, hk'⟩ : ∃ k : Fin 4096, k.val = t.val % 8 * 512 + r.val ∧ k = ⟨t.val % 8 * 512 + r.val, by omega⟩ := ⟨_, rfl, rfl⟩
  obtain ⟨b, hb⟩ : ∃ b : Fin 8, b = ⟨t.val / 8, Nat.div_lt_of_lt_mul ht⟩ := ⟨_, rfl⟩
  obtain ⟨C, hC, hC'⟩ : ∃ C : Fin 2560, C.val = 1536 + d.val ∧ C = ⟨1536 + d.val, by omega⟩ := ⟨_, rfl, rfl⟩
  rw [← hb, ← hk', ← hC']
  clear hk' hC'
  obtain ⟨G, hG⟩ : ∃ G : EReal, G = silu (convolved (extended (wideOut m c)) (m (c.tc.loc main_arg7)) (m (c.tc.loc main_arg8)) (ix3 b k C)) :=
    ⟨_, rfl⟩
  refine Eq.trans ?_ hG
  canon_tiles x hh
  case piece0 =>
    generalize hX : View.readCov (Val := Elt Ideal) _ _ _ = X
    obtain ⟨a, r', d', rfl⟩ : ∃ a r' d', x = ix3 a r' d' := ⟨x 0, x 1, x 2, by idx_ext⟩
    have h1 : r.val = 384 + r'.val := hr.symm.trans (hh1.trans (by first | rfl | exact (Nat.zero_add _).symm))
    have h2 : C.val = 2048 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 384 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 384 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4864 + p.val) (by omega) C _ (by omega) (by omega)]
        clear hv
        open_payloads
        pointwise
      · rw [hv, ← leaf_top m c t q (4864 + p.val) (by omega) C _ (by omega) (by omega)]
        clear hv
        open_payloads
        pointwise
      · rw [hv, ← leaf_main m c t q (4864 + p.val) (by omega) C _ (by omega) (by omega)]
        clear hv
        open_payloads
        pointwise
      · rw [hv, ← leaf_bottom m c t q (4608 + p.val) (by omega) C _ (by omega) (by omega)]
        clear hv
        open_payloads
        pointwise
      · rw [hv, ← leaf_top m c t q (4608 + p.val) (by omega) C _ (by omega) (by omega)]
        clear hv
        open_payloads
        pointwise
      · rw [hv, ← leaf_main m c t q (4608 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece1 =>
    generalize hX : View.readCov (Val := Elt Ideal) _ _ _ = X
    obtain ⟨a, r', d', rfl⟩ : ∃ a r' d', x = ix3 a r' d' := ⟨x 0, x 1, x 2, by idx_ext⟩
    have h1 : r.val = 256 + r'.val := hr.symm.trans (hh1.trans (by first | rfl | exact (Nat.zero_add _).symm))
    have h2 : C.val = 2048 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 256 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 256 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4864 + p.val) (by omega) C _ (by omega) (by omega)]
        clear hv
        open_payloads
        pointwise
      · rw [hv, ← leaf_top m c t q (4864 + p.val) (by omega) C _ (by omega) (by omega)]
        clear hv
        open_payloads
        pointwise
      · rw [hv, ← leaf_main m c t q (4864 + p.val) (by omega) C _ (by omega) (by omega)]
        clear hv
        open_payloads
        pointwise
      · rw [hv, ← leaf_bottom m c t q (4608 + p.val) (by omega) C _ (by omega) (by omega)]
        clear hv
        open_payloads
        pointwise
      · rw [hv, ← leaf_top m c t q (4608 + p.val) (by omega) C _ (by omega) (by omega)]
        clear hv
        open_payloads
        pointwise
      · rw [hv, ← leaf_main m c t q (4608 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece2 =>
    generalize hX : View.readCov (Val := Elt Ideal) _ _ _ = X
    obtain ⟨a, r', d', rfl⟩ : ∃ a r' d', x = ix3 a r' d' := ⟨x 0, x 1, x 2, by idx_ext⟩
    have h1 : r.val = 128 + r'.val := hr.symm.trans (hh1.trans (by first | rfl | exact (Nat.zero_add _).symm))
    have h2 : C.val = 2048 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 128 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 128 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4864 + p.val) (by omega) C _ (by omega) (by omega)]
        clear hv
        open_payloads
        pointwise
      · rw [hv, ← leaf_top m c t q (4864 + p.val) (by omega) C _ (by omega) (by omega)]
        clear hv
        open_payloads
        pointwise
      · rw [hv, ← leaf_main m c t q (4864 + p.val) (by omega) C _ (by omega) (by omega)]
        clear hv
        open_payloads
        pointwise
      · rw [hv, ← leaf_bottom m c t q (4608 + p.val) (by omega) C _ (by omega) (by omega)]
        clear hv
        open_payloads
        pointwise
      · rw [hv, ← leaf_top m c t q (4608 + p.val) (by omega) C _ (by omega) (by omega)]
        clear hv
        open_payloads
        pointwise
      · rw [hv, ← leaf_main m c t q (4608 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece3 =>
    generalize hX : View.readCov (Val := Elt Ideal) _ _ _ = X
    obtain ⟨a, r', d', rfl⟩ : ∃ a r' d', x = ix3 a r' d' := ⟨x 0, x 1, x 2, by idx_ext⟩
    have h1 : r.val = 0 + r'.val := hr.symm.trans (hh1.trans (by first | rfl | exact (Nat.zero_add _).symm))
    have h2 : C.val = 2048 + d'.val := by
      have h3 : d.val = 512 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 0 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 0 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4864 + p.val) (by omega) C _ (by omega) (by omega)]
        clear hv
        open_payloads
        pointwise
      · rw [hv, ← leaf_top m c t q (4864 + p.val) (by omega) C _ (by omega) (by omega)]
        clear hv
        open_payloads
        pointwise
      · rw [hv, ← leaf_main m c t q (4864 + p.val) (by omega) C _ (by omega) (by omega)]
        clear hv
        open_payloads
        pointwise
      · rw [hv, ← leaf_bottom m c t q (4608 + p.val) (by omega) C _ (by omega) (by omega)]
        clear hv
        open_payloads
        pointwise
      · rw [hv, ← leaf_top m c t q (4608 + p.val) (by omega) C _ (by omega) (by omega)]
        clear hv
        open_payloads
        pointwise
      · rw [hv, ← leaf_main m c t q (4608 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece4 =>
    generalize hX : View.readCov (Val := Elt Ideal) _ _ _ = X
    obtain ⟨a, r', d', rfl⟩ : ∃ a r' d', x = ix3 a r' d' := ⟨x 0, x 1, x 2, by idx_ext⟩
    have h1 : r.val = 384 + r'.val := hr.symm.trans (hh1.trans (by first | rfl | exact (Nat.zero_add _).symm))
    have h2 : C.val = 1536 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 384 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 384 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4352 + p.val) (by omega) C _ (by omega) (by omega)]
        clear hv
        open_payloads
        pointwise
      · rw [hv, ← leaf_top m c t q (4352 + p.val) (by omega) C _ (by omega) (by omega)]
        clear hv
        open_payloads
        pointwise
      · rw [hv, ← leaf_main m c t q (4352 + p.val) (by omega) C _ (by omega) (by omega)]
        clear hv
        open_payloads
        pointwise
      · rw [hv, ← leaf_bottom m c t q (4096 + p.val) (by omega) C _ (by omega) (by omega)]
        clear hv
        open_payloads
        pointwise
      · rw [hv, ← leaf_top m c t q (4096 + p.val) (by omega) C _ (by omega) (by omega)]
        clear hv
        open_payloads
        pointwise
      · rw [hv, ← leaf_main m c t q (4096 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece5 =>
    generalize hX : View.readCov (Val := Elt Ideal) _ _ _ = X
    obtain ⟨a, r', d', rfl⟩ : ∃ a r' d', x = ix3 a r' d' := ⟨x 0, x 1, x 2, by idx_ext⟩
    have h1 : r.val = 256 + r'.val := hr.symm.trans (hh1.trans (by first | rfl | exact (Nat.zero_add _).symm))
    have h2 : C.val = 1536 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 256 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 256 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4352 + p.val) (by omega) C _ (by omega) (by omega)]
        clear hv
        open_payloads
        pointwise
      · rw [hv, ← leaf_top m c t q (4352 + p.val) (by omega) C _ (by omega) (by omega)]
        clear hv
        open_payloads
        pointwise
      · rw [hv, ← leaf_main m c t q (4352 + p.val) (by omega) C _ (by omega) (by omega)]
        clear hv
        open_payloads
        pointwise
      · rw [hv, ← leaf_bottom m c t q (4096 + p.val) (by omega) C _ (by omega) (by omega)]
        clear hv
        open_payloads
        pointwise
      · rw [hv, ← leaf_top m c t q (4096 + p.val) (by omega) C _ (by omega) (by omega)]
        clear hv
        open_payloads
        pointwise
      · rw [hv, ← leaf_main m c t q (4096 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece6 =>
    generalize hX : View.readCov (Val := Elt Ideal) _ _ _ = X
    obtain ⟨a, r', d', rfl⟩ : ∃ a r' d', x = ix3 a r' d' := ⟨x 0, x 1, x 2, by idx_ext⟩
    have h1 : r.val = 128 + r'.val := hr.symm.trans (hh1.trans (by first | rfl | exact (Nat.zero_add _).symm))
    have h2 : C.val = 1536 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 128 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 128 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4352 + p.val) (by omega) C _ (by omega) (by omega)]
        clear hv
        open_payloads
        pointwise
      · rw [hv, ← leaf_top m c t q (4352 + p.val) (by omega) C _ (by omega) (by omega)]
        clear hv
        open_payloads
        pointwise
      · rw [hv, ← leaf_main m c t q (4352 + p.val) (by omega) C _ (by omega) (by omega)]
        clear hv
        open_payloads
        pointwise
      · rw [hv, ← leaf_bottom m c t q (4096 + p.val) (by omega) C _ (by omega) (by omega)]
        clear hv
        open_payloads
        pointwise
      · rw [hv, ← leaf_top m c t q (4096 + p.val) (by omega) C _ (by omega) (by omega)]
        clear hv
        open_payloads
        pointwise
      · rw [hv, ← leaf_main m c t q (4096 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega
  case piece7 =>
    generalize hX : View.readCov (Val := Elt Ideal) _ _ _ = X
    obtain ⟨a, r', d', rfl⟩ : ∃ a r' d', x = ix3 a r' d' := ⟨x 0, x 1, x 2, by idx_ext⟩
    have h1 : r.val = 0 + r'.val := hr.symm.trans (hh1.trans (by first | rfl | exact (Nat.zero_add _).symm))
    have h2 : C.val = 1536 + d'.val := by
      have h3 : d.val = 0 + d'.val := hd.symm.trans (hh2.trans (by first | rfl | exact (Nat.zero_add _).symm))
      omega
    clear hr hd hC hh0 hh1 hh2 x0_lt x1_lt x2_lt
    have hX' : ∀ (ρ : Fin 144) (j : ℕ), ρ.val = r'.val + 6 + j → (X (ix2 ρ d') : EReal) = channel (wideOut m c) b (k.val + j) C := by
      intro ρ j hρ
      rw [← hX]
      clear hX
      refine (load_at _ _ 0 _ ρ d' (by omega)).trans ?_
      obtain ⟨v, hv⟩ : ∃ v : EReal, v = channel (wideOut m c) b (k.val + j) C := ⟨_, rfl⟩
      rw [← hv]
      generalize hz : (ix2 _ d' : S528x512.Idx) = z
      have hz0 : (z 0).val = 0 + ρ.val := by rw [← hz]; rfl
      have hz1 : (z 1).val = d'.val := by rw [← hz]; rfl
      clear hz hG
      subst hb
      refine filled_at _ _ _ _ _ _ z _ ?_ ?_ ?_ ?_ ?_ ?_
      all_goals intro q p e0 e1
      · rw [hv, ← leaf_bottom m c t q (4352 + p.val) (by omega) C _ (by omega) (by omega)]
        clear hv
        open_payloads
        pointwise
      · rw [hv, ← leaf_top m c t q (4352 + p.val) (by omega) C _ (by omega) (by omega)]
        clear hv
        open_payloads
        pointwise
      · rw [hv, ← leaf_main m c t q (4352 + p.val) (by omega) C _ (by omega) (by omega)]
        clear hv
        open_payloads
        pointwise
      · rw [hv, ← leaf_bottom m c t q (4096 + p.val) (by omega) C _ (by omega) (by omega)]
        clear hv
        open_payloads
        pointwise
      · rw [hv, ← leaf_top m c t q (4096 + p.val) (by omega) C _ (by omega) (by omega)]
        clear hv
        open_payloads
        pointwise
      · rw [hv, ← leaf_main m c t q (4096 + p.val) (by omega) C _ (by omega) (by omega)]
        clear hv
        open_payloads
        pointwise
    clear hX
    open_payloads
    pointwise
    refine conv_close m c b k C G hG _ _ _ _ _ _ _ _ _ _ _ ?_ ?_ ?_ ?_ ?_ ?_ ?_ ?_ ?_ ?_ ?_
    · exact (taps_at m c t 0 _).trans (congrArg (fun k => m (c.tc.loc main_arg7) (ix2 0 k)) (Fin.ext (by first | exact h2.symm | (dsimp only; omega))))
    · exact (taps_at m c t 1 _).trans (congrArg (fun k => m (c.tc.loc main_arg7) (ix2 1 k)) (Fin.ext (by first | exact h2.symm | (dsimp only; omega))))
    · exact (taps_at m c t 2 _).trans (congrArg (fun k => m (c.tc.loc main_arg7) (ix2 2 k)) (Fin.ext (by first | exact h2.symm | (dsimp only; omega))))
    · exact (taps_at m c t 3 _).trans (congrArg (fun k => m (c.tc.loc main_arg7) (ix2 3 k)) (Fin.ext (by first | exact h2.symm | (dsimp only; omega))))
    · exact (taps_at m c t 4 _).trans (congrArg (fun k => m (c.tc.loc main_arg7) (ix2 4 k)) (Fin.ext (by first | exact h2.symm | (dsimp only; omega))))
    · exact (bias_at m c t _).trans (congrArg (fun k => m (c.tc.loc main_arg8) (ix2 0 k)) (Fin.ext (by first | exact h2.symm | (dsimp only; omega))))
    · refine hX' _ 0 ?_
      dsimp only
      omega
    · refine hX' _ 1 ?_
      dsimp only
      omega
    · refine hX' _ 2 ?_
      dsimp only
      omega
    · refine hX' _ 3 ?_
      dsimp only
      omega
    · refine hX' _ 4 ?_
      dsimp only
      omega

end Cert.Kernel4Ideal.Inproj

end
-- ==== Proof.InprojClaim.lean ====
module

public import proofs.«01_k».proof.Defs
public import proofs.«01_k».proof.Proof.InprojPlain
public import proofs.«01_k».proof.Proof.InprojRun
public import proofs.«01_k».proof.Proof.InprojSteps
public import proofs.«01_k».proof.Proof.InprojInputs
public import proofs.«01_k».proof.Proof.InprojCoefficients
public import Idealize.ShloMosaic.Lib.Claim
public import Idealize.ShloMosaic.Adequacy
public import Idealize.ShloMosaic.Init

@[expose] public section

set_option maxRecDepth 16384

noncomputable section

namespace Cert.InprojClaim

open Idealize.ShloMosaic Idealize.SL.Sem

set_option maxHeartbeats 3200000 in
/-- The input projection's call and its reference end with the same six arrays: the two projections for the Fourier mixer, the gates,
    the scan's inputs and coefficients after their convolution, and the steps. -/
theorem same : Cert.algebraic_Kernel4Ideal_Reference4Ideal := by
  pair_intro
  · run_from Cert.Kernel4Ideal.Gen.run_main m g
    · exact Cert.Kernel4Ideal.Gen.V_main_arg4 m c
    · exact Cert.Kernel4Ideal.Gen.V_main_arg5 m c
    · exact Cert.Kernel4Ideal.Gen.V_main_arg6 m c
    · exact Cert.Kernel4Ideal.Gen.V_main_arg9 m c
  · refine θ_run_mono (Cert.InprojRun.results m' g') fun r hr c => ?_
    obtain ⟨h0, h1, h2, h3, h4, h5, h6, h7, h8, h9⟩ := hagree c
    obtain ⟨rp, rq, rz, rx, rb, rt, rest⟩ := hr c
    rw [h0, h1, h2, h3, h4] at rp
    rw [h0, h1, h2, h3, h5] at rq
    rw [h0, h1, h2, h3, h6] at rz
    rw [h0, h1, h2, h3, h6, h7, h8] at rx rb
    rw [h0, h1, h2, h3, h6, h9] at rt
    exact ⟨rp.trans (Cert.Kernel4Ideal.Inproj.final_p m c).symm, rq.trans (Cert.Kernel4Ideal.Inproj.final_q m c).symm,
      rz.trans (Cert.Kernel4Ideal.Inproj.final_z m c).symm, rx.trans (Cert.Kernel4Ideal.Inproj.final_xs m c).symm,
      rb.trans (Cert.Kernel4Ideal.Inproj.final_bc m c).symm, rt.trans (Cert.Kernel4Ideal.Inproj.final_dt m c).symm, rest⟩

/-- The input projection's reference runs to its end, leaves its arguments as they were and its counters at zero. -/
theorem frameRef : Cert.quiescent_Reference4Ideal := by
  intro m g _
  hlo_run
  · exact fun _ => ⟨trivial, trivial, trivial, trivial, trivial, trivial, trivial, trivial, trivial, trivial⟩
  · funext x
    obtain ⟨a, s⟩ := x
    exact s.casesOn (fun s => s.elim0) (fun s => s.elim0)

end Cert.InprojClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.KerFfnFrame
public import proofs.«01_k».proof.Proof.FfnFrame
public import proofs.«01_k».proof.Proof.FfnClaim
public import proofs.«01_k».proof.Proof.CombineFrames
public import proofs.«01_k».proof.Proof.CombineClaim
public import proofs.«01_k».proof.Proof.OutprojClaim
public import proofs.«01_k».proof.Proof.InprojClaim
public import Idealize.ShloMosaic.Adequacy
public import Idealize.ShloMosaic.Init

@[expose] public section

noncomputable section

namespace Cert.Proof

open Idealize.ShloMosaic Idealize.SL.Sem Cert.Kernel

/-- Everything claimed: the frames of the calls, printed and idealized, and of their references, and that each idealized
    call computes its reference's array. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Body.frame m ρ,
    fun m ρ _ => Cert.KernelIdeal.Body.frame m ρ,
    Cert.FfnClaim.frameRef,
    fun m ρ _ => Cert.Kernel2.Gen.frame m ρ,
    fun m ρ _ => Cert.Kernel2Ideal.Gen.frame m ρ,
    Cert.CombineFrames.frameRef,
    fun m ρ _ => Cert.Kernel3.Gen.frame m ρ,
    fun m ρ _ => Cert.Kernel3Ideal.Gen.frame m ρ,
    Cert.OutprojClaim.frameRef,
    fun m ρ _ => Cert.Kernel4.Gen.frame m ρ,
    fun m ρ _ => Cert.Kernel4Ideal.Gen.frame m ρ,
    Cert.InprojClaim.frameRef,
    trivial,
    Cert.FfnClaim.same,
    trivial,
    Cert.CombineClaim.same,
    trivial,
    Cert.OutprojClaim.same,
    trivial,
    Cert.InprojClaim.same⟩

end Cert.Proof

end
